-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sampled_threshold_splits [hPre_sampled_threshold_splits : Cert.Pre_sampled_threshold_splits.Facts] (m : (ℓ : Loc Cert.KernelIdeal.nD Cert.KernelIdeal.τ Cert.KernelIdeal.sig) → Buf (Elt Ideal) ℓ) : Prop :=
  ∀ c : Dev Cert.KernelIdeal.nD,
    (Cert.Pre_sampled_threshold_splits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_sampled_threshold_splits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_sampled_threshold_splits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sampled_threshold_splits [hPre_sampled_threshold_splits : Cert.Pre_sampled_threshold_splits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sampled_threshold_splits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_sampled_threshold_splits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_sampled_threshold_splits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sampled_threshold_splits [hKernelIdeal : Cert.KernelIdeal.Facts] [hPre_sampled_threshold_splits : Cert.Pre_sampled_threshold_splits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sampled_threshold_splits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sampled_threshold_splits [hReferenceIdeal : Cert.ReferenceIdeal.Facts] [hPre_sampled_threshold_splits : Cert.Pre_sampled_threshold_splits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sampled_threshold_splits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sampled_threshold_splits [hKernelIdeal : Cert.KernelIdeal.Facts] [hReferenceIdeal : Cert.ReferenceIdeal.Facts] [hPre_sampled_threshold_splits : Cert.Pre_sampled_threshold_splits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sampled_threshold_splits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_mean_over_threshold_pre_finite_and_in_range [hKernelIdeal : Cert.KernelIdeal.Facts] [hPre_finite_and_in_range : Cert.Pre_finite_and_in_range.Facts] [hPost_mean_over_threshold : Cert.Post_mean_over_threshold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_mean_over_threshold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0))).1 = (fun _ => 1#1)
      ∧ (Cert.Post_mean_over_threshold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0))).2 = (fun _ => 1#1))

def Claim : Prop :=
  ∃ (hKernel : Cert.Kernel.Facts) (hKernelIdeal : Cert.KernelIdeal.Facts) (hReferenceIdeal : Cert.ReferenceIdeal.Facts) (hPre_sampled_threshold_splits : Cert.Pre_sampled_threshold_splits.Facts) (hPre_finite_and_in_range : Cert.Pre_finite_and_in_range.Facts) (hPost_mean_over_threshold : Cert.Post_mean_over_threshold.Facts),
    quiescent_Kernel (hKernel := hKernel)
    ∧ quiescent_KernelIdeal (hKernelIdeal := hKernelIdeal)
    ∧ quiescent_KernelIdeal_pre_sampled_threshold_splits (hKernelIdeal := hKernelIdeal) (hPre_sampled_threshold_splits := hPre_sampled_threshold_splits)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_sampled_threshold_splits (hReferenceIdeal := hReferenceIdeal) (hPre_sampled_threshold_splits := hPre_sampled_threshold_splits)
    ∧ preserves_Kernel_KernelIdeal
    ∧ algebraic_KernelIdeal_ReferenceIdeal_pre_sampled_threshold_splits (hKernelIdeal := hKernelIdeal) (hReferenceIdeal := hReferenceIdeal) (hPre_sampled_threshold_splits := hPre_sampled_threshold_splits)
    ∧ holds_KernelIdeal_mean_over_threshold_pre_finite_and_in_range (hKernelIdeal := hKernelIdeal) (hPre_finite_and_in_range := hPre_finite_and_in_range) (hPost_mean_over_threshold := hPost_mean_over_threshold)
-- ==== Post_mean_over_threshold.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x262144 : Shape := ⟨2, ![8, 262144]⟩
abbrev S8x16384 : Shape := ⟨2, ![8, 16384]⟩
abbrev S8x3277 : Shape := ⟨2, ![8, 3277]⟩
abbrev S8x1 : Shape := ⟨2, ![8, 1]⟩
abbrev S32640 : Shape := ⟨1, ![32640]⟩
abbrev S1x32640 : Shape := ⟨2, ![1, 32640]⟩
abbrev S8x32640 : Shape := ⟨2, ![8, 32640]⟩
abbrev S8 : Shape := ⟨1, ![8]⟩
abbrev S8x52428 : Shape := ⟨2, ![8, 52428]⟩

class Facts : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  shapeCasts_S8x512x512_S8x262144 : S8x512x512.ShapeCasts S8x262144
  slices_S8x262144_S8x16384_0_0 : S8x262144.Slices ![0, 0] S8x16384
  sliceFits_S8x16384_S8x3277 : S8x16384.Slices (fun _ => 0) S8x3277
  slices_S8x3277_S8x1_0_3276 : S8x3277.Slices ![0, 3276] S8x1
  bcast_S_S32640 : S_.BroadcastsInDim S32640 (![] : Fin 0 → Fin S32640.rank)
  bcast_S32640_S1x32640_1 : S32640.BroadcastsInDim S1x32640 (![1] : Fin 1 → Fin S1x32640.rank)
  bcast_S1x32640_S8x32640_0_1 : S1x32640.BroadcastsInDim S8x32640 (![0, 1] : Fin 2 → Fin S8x32640.rank)
  bcast_S8x1_S8x32640_0_1 : S8x1.BroadcastsInDim S8x32640 (![0, 1] : Fin 2 → Fin S8x32640.rank)
  bcast_S_S8x32640 : S_.BroadcastsInDim S8x32640 (![] : Fin 0 → Fin S8x32640.rank)
  reducesTo_S8x32640_S8_d1 : S8x32640.ReducesTo [1] S8
  bcast_S8_S8x1_0 : S8.BroadcastsInDim S8x1 (![0] : Fin 1 → Fin S8x1.rank)
  shapeCasts_S8x1_S8 : S8x1.ShapeCasts S8
  bcast_S8x1_S8x262144_0_1 : S8x1.BroadcastsInDim S8x262144 (![0, 1] : Fin 2 → Fin S8x262144.rank)
  bcast_S_S8x262144 : S_.BroadcastsInDim S8x262144 (![] : Fin 0 → Fin S8x262144.rank)
  reducesTo_S8x262144_S8_d1 : S8x262144.ReducesTo [1] S8
  bcast_S_S8 : S_.BroadcastsInDim S8 (![] : Fin 0 → Fin S8.rank)
  reducesTo_S8_S_d0 : S8.ReducesTo [0] S_
  sliceFits_S8x262144_S8x52428 : S8x262144.Slices (fun _ => 0) S8x52428
  reducesTo_S8x52428_S8_d1 : S8x52428.ReducesTo [1] S8
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]

variable [Facts]

def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf
def fn_log_softmax {F : FTy → Type} [FloatOps F] (arg0 : FVec F S8x19x512x512 .f32) : FVec F S8x19x512x512 .f32 :=
  let cst : FVec F S_ .f32 := constant S_ .f32 0xFF800000#32
  let v0 : FVec F S8x512x512 .f32 := (fun x v => Host.reduce FloatOps.maximumf x v reducesTo_S8x19x512x512_S8x512x512_d1 h_S_) arg0 cst
  let cst_0 : FVec F S_ .f32 := constant S_ .f32 0xFF800000#32
  let v1 : FVec F S8x512x512 .f32 := broadcastInDim S8x512x512 ![] bcast_S_S8x512x512 cst_0
  let v2 : FVec F S8x512x512 .f32 := maximumf v1 v0
  let v3 : FVec F S8x1x512x512 .f32 := broadcastInDim S8x1x512x512 ![0, 2, 3] bcast_S8x512x512_S8x1x512x512_0_2_3 v2
  let v4 : FVec F S8x19x512x512 .f32 := broadcastInDim S8x19x512x512 ![0, 1, 2, 3] bcast_S8x1x512x512_S8x19x512x512_0_1_2_3 v3
  let v5 : FVec F S8x19x512x512 .f32 := subf arg0 v4
  let v6 : FVec F S8x19x512x512 .f32 := Host.exp v5
  let cst_1 : FVec F S_ .f32 := constant S_ .f32 0x00000000#32
  let v7 : FVec F S8x512x512 .f32 := (fun x v => Host.reduceAdd x v reducesTo_S8x19x512x512_S8x512x512_d1 h_S_) v6 cst_1
  let v8 : FVec F S8x1x512x512 .f32 := broadcastInDim S8x1x512x512 ![0, 2, 3] bcast_S8x512x512_S8x1x512x512_0_2_3 v7
  let v9 : FVec F S8x1x512x512 .f32 := Host.log v8
  let v10 : FVec F S8x19x512x512 .f32 := broadcastInDim S8x19x512x512 ![0, 1, 2, 3] bcast_S8x1x512x512_S8x19x512x512_0_1_2_3 v9
  let v11 : FVec F S8x19x512x512 .f32 := subf v5 v10
  v11

def fn_where {F : FTy → Type} [FloatOps F] (arg0 : IVec S8x512x512 1) (arg1 : IVec S_ 32) (arg2 : IVec S8x512x512 32) : IVec S8x512x512 32 :=
  let v0 : IVec S_ 32 := id arg1
  let v1 : IVec S8x512x512 32 := broadcastInDim S8x512x512 ![] bcast_S_S8x512x512 v0
  let v2 : IVec S8x512x512 32 := select arg0 v1 arg2
  v2

def fn_take_along_axis {F : FTy → Type} [FloatOps F] (arg0 : FVec F S8x19x512x512 .f32) (arg1 : IVec S8x1x512x512 32) : FVec F S8x1x512x512 .f32 :=
  let c : IVec S_ 32 := constantI S_ 32 0#32
  let v0 : IVec S8x1x512x512 32 := broadcastInDim S8x1x512x512 ![] bcast_S_S8x1x512x512 c
  let v1 : IVec S8x1x512x512 1 := cmpi .slt arg1 v0
  let c_0 : IVec S_ 32 := constantI S_ 32 19#32
  let v2 : IVec S8x1x512x512 32 := broadcastInDim S8x1x512x512 ![] bcast_S_S8x1x512x512 c_0
  let v3 : IVec S8x1x512x512 32 := addi arg1 v2
  let v4 : IVec S8x1x512x512 32 := select v1 v3 arg1
  let v5 : IVec S8x1x512x512x1 32 := shapeCast S8x1x512x512x1 v4 shapeCasts_S8x1x512x512_S8x1x512x512x1
  let c_1 : IVec S1 32 := constantI S1 32 18#32
  let c_2 : IVec S_ 32 := constantI S_ 32 0#32
  let v6 : IVec S8x1x512x512x1 32 := broadcastInDim S8x1x512x512x1 ![] bcast_S_S8x1x512x512x1 c_2
  let v7 : IVec S8x1x512x512x1 1 := cmpi .sge v5 v6
  let v8 : IVec S1x1x1x1x1 32 := broadcastInDim S1x1x1x1x1 ![4] bcast_S1_S1x1x1x1x1_4 c_1
  let v9 : IVec S8x1x512x512x1 32 := broadcastInDim S8x1x512x512x1 ![0, 1, 2, 3, 4] bcast_S1x1x1x1x1_S8x1x512x512x1_0_1_2_3_4 v8
  let v10 : IVec S8x1x512x512x1 1 := cmpi .sle v5 v9
  let v11 : IVec S8x1x512x512x1 1 := andi v7 v10
  let c_3 : IVec S_ 1 := constantI S_ 1 1#1
  let v12 : IVec S8x1x512x512 1 := (fun x v => Host.reduce IntOp.andi x v reducesTo_S8x1x512x512x1_S8x1x512x512_d4 h_S_) v11 c_3
  let v13 : FVec F S8x1x512x512 .f32 := (fun x i => Host.gather gather_S8x19x512x512_S8x1x512x512x1_S8x1x512x512_n_1_023_023_1_4_1111 x i) arg0 v5
  let cst : FVec F S_ .f32 := constant S_ .f32 0x7FC00000#32
  let v14 : FVec F S8x1x512x512 .f32 := broadcastInDim S8x1x512x512 ![] bcast_S_S8x1x512x512 cst
  let v15 : FVec F S8x1x512x512 .f32 := select v12 v13 v14
  v15

def fn_where_0 {F : FTy → Type} [FloatOps F] (arg0 : IVec S8x512x512 1) (arg1 : FVec F S_ .f32) (arg2 : FVec F S8x512x512 .f32) : FVec F S8x512x512 .f32 :=
  let v0 : FVec F S_ .f32 := id arg1
  let v1 : FVec F S8x512x512 .f32 := broadcastInDim S8x512x512 ![] bcast_S_S8x512x512 v0
  let v2 : FVec F S8x512x512 .f32 := select arg0 v1 arg2
  v2

def fn_where_1 {F : FTy → Type} [FloatOps F] (arg0 : IVec S8x32640 1) (arg1 : FVec F S1x32640 .f32) (arg2 : FVec F S_ .f32) : FVec F S8x32640 .f32 :=
  let v0 : FVec F S_ .f32 := id arg2
  let v1 : FVec F S8x32640 .f32 := broadcastInDim S8x32640 ![0, 1] bcast_S1x32640_S8x32640_0_1 arg1
  let v2 : FVec F S8x32640 .f32 := broadcastInDim S8x32640 ![] bcast_S_S8x32640 v0
  let v3 : FVec F S8x32640 .f32 := select arg0 v1 v2
  v3

def fn_part3 {F : FTy → Type} [FloatOps F] (main_arg2 : FVec F S_ .f32) (main_v35 : IVec S_ 1) (main_v49 : FVec F S_ .f32) (main_cst_17 : FVec F S_ .f32) : IVec S_ 1 × IVec S_ 1 :=
  let main_v50 : FVec F S_ .f32 := Host.divf main_v49 main_cst_17
  let main_v51 : IVec S_ 1 := cmpf .oge main_arg2 main_v50
  (main_v35, main_v51)

def fn_part2 {F : FTy → Type} [FloatOps F] (main_arg0 : FVec F S8x19x512x512 .f32) (main_arg1 : IVec S8x512x512 32) (main_arg2 : FVec F S_ .f32) (main_v34 : FVec F S_ .f32) : IVec S_ 1 × IVec S_ 1 :=
  let main_v35 : IVec S_ 1 := cmpf .oeq main_arg2 main_v34
  let main_v36 : FVec F S8x19x512x512 .f32 := fn_log_softmax (F := F) main_arg0
  let main_c_9 : IVec S_ 32 := constantI S_ 32 4294967295#32
  let main_v37 : IVec S8x512x512 32 := broadcastInDim S8x512x512 ![] bcast_S_S8x512x512 main_c_9
  let main_v38 : IVec S8x512x512 1 := cmpi .eq main_arg1 main_v37
  let main_c_10 : IVec S_ 32 := constantI S_ 32 0#32
  let main_v39 : IVec S8x512x512 32 := fn_where (F := F) main_v38 main_c_10 main_arg1
  let main_v40 : IVec S8x1x512x512 32 := broadcastInDim S8x1x512x512 ![0, 2, 3] bcast_S8x512x512_S8x1x512x512_0_2_3 main_v39
  let main_v41 : FVec F S8x1x512x512 .f32 := fn_take_along_axis (F := F) main_v36 main_v40
  let main_v42 : FVec F S8x512x512 .f32 := shapeCast S8x512x512 main_v41 shapeCasts_S8x1x512x512_S8x512x512
  let main_v43 : FVec F S8x512x512 .f32 := Host.negf main_v42
  let main_cst_11 : FVec F S_ .f32 := constant S_ .f32 0x00000000#32
  let main_v44 : FVec F S8x512x512 .f32 := fn_where_0 (F := F) main_v38 main_cst_11 main_v43
  let main_v45 : FVec F S8x262144 .f32 := shapeCast S8x262144 main_v44 shapeCasts_S8x512x512_S8x262144
  let main_values_12 : FVec F S8x52428 .f32 := (fun x => (Host.topK S8x52428 1 (FloatOps.cmpfTotal .gt) x sliceFits_S8x262144_S8x52428).1) main_v45
  let main_indices_13 : IVec S8x52428 32 := (fun x => (Host.topK S8x52428 1 (FloatOps.cmpfTotal .gt) x sliceFits_S8x262144_S8x52428).2) main_v45
  let main_cst_14 : FVec F S_ .f32 := constant S_ .f32 0x00000000#32
  let main_v46 : FVec F S8 .f32 := (fun x v => Host.reduceAdd x v reducesTo_S8x52428_S8_d1 h_S_) main_values_12 main_cst_14
  let main_cst_15 : FVec F S_ .f32 := constant S_ .f32 0x474CCC00#32
  let main_v47 : FVec F S8 .f32 := broadcastInDim S8 ![] bcast_S_S8 main_cst_15
  let main_v48 : FVec F S8 .f32 := Host.divf main_v46 main_v47
  let main_cst_16 : FVec F S_ .f32 := constant S_ .f32 0x00000000#32
  let main_v49 : FVec F S_ .f32 := (fun x v => Host.reduceAdd x v reducesTo_S8_S_d0 h_S_) main_v48 main_cst_16
  let main_cst_17 : FVec F S_ .f32 := constant S_ .f32 0x41000000#32
  fn_part3 (F := F) main_arg2 main_v35 main_v49 main_cst_17

def fn_part1 {F : FTy → Type} [FloatOps F] (main_arg0 : FVec F S8x19x512x512 .f32) (main_arg1 : IVec S8x512x512 32) (main_arg2 : FVec F S_ .f32) (main_v9 : FVec F S8x262144 .f32) (main_v11 : FVec F S8x1 .f32) (main_v15 : FVec F S32640 .f32) (main_v17 : FVec F S8x32640 .f32) : IVec S_ 1 × IVec S_ 1 :=
  let main_v18 : FVec F S8x32640 .f32 := broadcastInDim S8x32640 ![0, 1] bcast_S8x1_S8x32640_0_1 main_v11
  let main_v19 : IVec S8x32640 1 := cmpf .ole main_v17 main_v18
  let main_v20 : FVec F S1x32640 .f32 := broadcastInDim S1x32640 ![1] bcast_S32640_S1x32640_1 main_v15
  let main_cst_2 : FVec F S_ .f32 := constant S_ .f32 0x00000000#32
  let main_v21 : FVec F S8x32640 .f32 := fn_where_1 (F := F) main_v19 main_v20 main_cst_2
  let main_cst_3 : FVec F S_ .f32 := constant S_ .f32 0xFF800000#32
  let main_v22 : FVec F S8 .f32 := (fun x v => Host.reduce FloatOps.maximumf x v reducesTo_S8x32640_S8_d1 h_S_) main_v21 main_cst_3
  let main_v23 : FVec F S8x1 .f32 := broadcastInDim S8x1 ![0] bcast_S8_S8x1_0 main_v22
  let main_v24 : FVec F S8 .f32 := shapeCast S8 main_v23 shapeCasts_S8x1_S8
  let main_v25 : FVec F S8x262144 .f32 := broadcastInDim S8x262144 ![0, 1] bcast_S8x1_S8x262144_0_1 main_v23
  let main_v26 : FVec F S8x262144 .f32 := subf main_v9 main_v25
  let main_cst_4 : FVec F S_ .f32 := constant S_ .f32 0x00000000#32
  let main_v27 : FVec F S8x262144 .f32 := broadcastInDim S8x262144 ![] bcast_S_S8x262144 main_cst_4
  let main_v28 : FVec F S8x262144 .f32 := maximumf main_v26 main_v27
  let main_cst_5 : FVec F S_ .f32 := constant S_ .f32 0x00000000#32
  let main_v29 : FVec F S8 .f32 := (fun x v => Host.reduceAdd x v reducesTo_S8x262144_S8_d1 h_S_) main_v28 main_cst_5
  let main_cst_6 : FVec F S_ .f32 := constant S_ .f32 0x474CCC00#32
  let main_v30 : FVec F S8 .f32 := broadcastInDim S8 ![] bcast_S_S8 main_cst_6
  let main_v31 : FVec F S8 .f32 := Host.divf main_v29 main_v30
  let main_v32 : FVec F S8 .f32 := addf main_v24 main_v31
  let main_cst_7 : FVec F S_ .f32 := constant S_ .f32 0x00000000#32
  let main_v33 : FVec F S_ .f32 := (fun x v => Host.reduceAdd x v reducesTo_S8_S_d0 h_S_) main_v32 main_cst_7
  let main_cst_8 : FVec F S_ .f32 := constant S_ .f32 0x41000000#32
  let main_v34 : FVec F S_ .f32 := Host.divf main_v33 main_cst_8
  fn_part2 (F := F) main_arg0 main_arg1 main_arg2 main_v34

def fn {F : FTy → Type} [FloatOps F] (main_arg0 : FVec F S8x19x512x512 .f32) (main_arg1 : IVec S8x512x512 32) (main_arg2 : FVec F S_ .f32) : IVec S_ 1 × IVec S_ 1 :=
  let main_v0 : FVec F S8x19x512x512 .f32 := fn_log_softmax (F := F) main_arg0
  let main_c : IVec S_ 32 := constantI S_ 32 4294967295#32
  let main_v1 : IVec S8x512x512 32 := broadcastInDim S8x512x512 ![] bcast_S_S8x512x512 main_c
  let main_v2 : IVec S8x512x512 1 := cmpi .eq main_arg1 main_v1
  let main_c_0 : IVec S_ 32 := constantI S_ 32 0#32
  let main_v3 : IVec S8x512x512 32 := fn_where (F := F) main_v2 main_c_0 main_arg1
  let main_v4 : IVec S8x1x512x512 32 := broadcastInDim S8x1x512x512 ![0, 2, 3] bcast_S8x512x512_S8x1x512x512_0_2_3 main_v3
  let main_v5 : FVec F S8x1x512x512 .f32 := fn_take_along_axis (F := F) main_v0 main_v4
  let main_v6 : FVec F S8x512x512 .f32 := shapeCast S8x512x512 main_v5 shapeCasts_S8x1x512x512_S8x512x512
  let main_v7 : FVec F S8x512x512 .f32 := Host.negf main_v6
  let main_cst : FVec F S_ .f32 := constant S_ .f32 0x00000000#32
  let main_v8 : FVec F S8x512x512 .f32 := fn_where_0 (F := F) main_v2 main_cst main_v7
  let main_v9 : FVec F S8x262144 .f32 := shapeCast S8x262144 main_v8 shapeCasts_S8x512x512_S8x262144
  let main_v10 : FVec F S8x16384 .f32 := (extractStridedSlice S8x16384 ![0, 0] · slices_S8x262144_S8x16384_0_0) main_v9
  let main_values : FVec F S8x3277 .f32 := (fun x => (Host.topK S8x3277 1 (FloatOps.cmpfTotal .gt) x sliceFits_S8x16384_S8x3277).1) main_v10
  let main_indices : IVec S8x3277 32 := (fun x => (Host.topK S8x3277 1 (FloatOps.cmpfTotal .gt) x sliceFits_S8x16384_S8x3277).2) main_v10
  let main_v11 : FVec F S8x1 .f32 := (extractStridedSlice S8x1 ![0, 3276] · slices_S8x3277_S8x1_0_3276) main_values
  let main_v12 : IVec S32640 32 := iotaInDim S32640 32 0
  let main_c_1 : IVec S_ 32 := constantI S_ 32 16#32
  let main_v13 : IVec S32640 32 := broadcastInDim S32640 ![] bcast_S_S32640 main_c_1
  let main_v14 : IVec S32640 32 := Host.shli main_v12 main_v13
  let main_v15 : FVec F S32640 .f32 := bitcastToFloat .f32 main_v14
  let main_v16 : FVec F S1x32640 .f32 := broadcastInDim S1x32640 ![1] bcast_S32640_S1x32640_1 main_v15
  let main_v17 : FVec F S8x32640 .f32 := broadcastInDim S8x32640 ![0, 1] bcast_S1x32640_S8x32640_0_1 main_v16
  fn_part1 (F := F) main_arg0 main_arg1 main_arg2 main_v9 main_v11 main_v15 main_v17
-- ==== Pre_finite_and_in_range.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  bcast_S_S8x512x512 : S_.BroadcastsInDim S8x512x512 (![] : Fin 0 → Fin S8x512x512.rank)

variable [Facts]

def fn {F : FTy → Type} [FloatOps F] (main_arg0 : FVec F S8x19x512x512 .f32) (main_arg1 : IVec S8x512x512 32) : IVec S8x19x512x512 1 × IVec S8x512x512 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 32 := constantI S_ 32 4294967295#32
  let main_v3 : IVec S8x512x512 32 := broadcastInDim S8x512x512 ![] bcast_S_S8x512x512 main_c
  let main_v4 : IVec S8x512x512 1 := cmpi .sge main_arg1 main_v3
  let main_c_0 : IVec S_ 32 := constantI S_ 32 19#32
  let main_v5 : IVec S8x512x512 32 := broadcastInDim S8x512x512 ![] bcast_S_S8x512x512 main_c_0
  let main_v6 : IVec S8x512x512 1 := cmpi .slt main_arg1 main_v5
  let main_v7 : IVec S8x512x512 1 := andi main_v4 main_v6
  (main_v2, main_v7)
-- ==== Pre_sampled_threshold_splits.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x262144 : Shape := ⟨2, ![8, 262144]⟩
abbrev S8x16384 : Shape := ⟨2, ![8, 16384]⟩
abbrev S8x3277 : Shape := ⟨2, ![8, 3277]⟩
abbrev S8x1 : Shape := ⟨2, ![8, 1]⟩
abbrev S32640 : Shape := ⟨1, ![32640]⟩
abbrev S1x32640 : Shape := ⟨2, ![1, 32640]⟩
abbrev S8x32640 : Shape := ⟨2, ![8, 32640]⟩
abbrev S8 : Shape := ⟨1, ![8]⟩

class Facts : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  shapeCasts_S8x512x512_S8x262144 : S8x512x512.ShapeCasts S8x262144
  slices_S8x262144_S8x16384_0_0 : S8x262144.Slices ![0, 0] S8x16384
  sliceFits_S8x16384_S8x3277 : S8x16384.Slices (fun _ => 0) S8x3277
  slices_S8x3277_S8x1_0_3276 : S8x3277.Slices ![0, 3276] S8x1
  bcast_S_S32640 : S_.BroadcastsInDim S32640 (![] : Fin 0 → Fin S32640.rank)
  bcast_S32640_S1x32640_1 : S32640.BroadcastsInDim S1x32640 (![1] : Fin 1 → Fin S1x32640.rank)
  bcast_S1x32640_S8x32640_0_1 : S1x32640.BroadcastsInDim S8x32640 (![0, 1] : Fin 2 → Fin S8x32640.rank)
  bcast_S8x1_S8x32640_0_1 : S8x1.BroadcastsInDim S8x32640 (![0, 1] : Fin 2 → Fin S8x32640.rank)
  bcast_S_S8x32640 : S_.BroadcastsInDim S8x32640 (![] : Fin 0 → Fin S8x32640.rank)
  reducesTo_S8x32640_S8_d1 : S8x32640.ReducesTo [1] S8
  bcast_S8_S8x1_0 : S8.BroadcastsInDim S8x1 (![0] : Fin 1 → Fin S8x1.rank)
  bcast_S8x1_S8x262144_0_1 : S8x1.BroadcastsInDim S8x262144 (![0, 1] : Fin 2 → Fin S8x262144.rank)
  reducesTo_S8x262144_S8_d1 : S8x262144.ReducesTo [1] S8
  bcast_S_S8x19x512x512 : S_.BroadcastsInDim S8x19x512x512 (![] : Fin 0 → Fin S8x19x512x512.rank)
  bcast_S_S8 : S_.BroadcastsInDim S8 (![] : Fin 0 → Fin S8.rank)
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]

variable [Facts]

def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf
def fn_log_softmax {F : FTy → Type} [FloatOps F] (arg0 : FVec F S8x19x512x512 .f32) : FVec F S8x19x512x512 .f32 :=
  let cst : FVec F S_ .f32 := constant S_ .f32 0xFF800000#32
  let v0 : FVec F S8x512x512 .f32 := (fun x v => Host.reduce FloatOps.maximumf x v reducesTo_S8x19x512x512_S8x512x512_d1 h_S_) arg0 cst
  let cst_0 : FVec F S_ .f32 := constant S_ .f32 0xFF800000#32
  let v1 : FVec F S8x512x512 .f32 := broadcastInDim S8x512x512 ![] bcast_S_S8x512x512 cst_0
  let v2 : FVec F S8x512x512 .f32 := maximumf v1 v0
  let v3 : FVec F S8x1x512x512 .f32 := broadcastInDim S8x1x512x512 ![0, 2, 3] bcast_S8x512x512_S8x1x512x512_0_2_3 v2
  let v4 : FVec F S8x19x512x512 .f32 := broadcastInDim S8x19x512x512 ![0, 1, 2, 3] bcast_S8x1x512x512_S8x19x512x512_0_1_2_3 v3
  let v5 : FVec F S8x19x512x512 .f32 := subf arg0 v4
  let v6 : FVec F S8x19x512x512 .f32 := Host.exp v5
  let cst_1 : FVec F S_ .f32 := constant S_ .f32 0x00000000#32
  let v7 : FVec F S8x512x512 .f32 := (fun x v => Host.reduceAdd x v reducesTo_S8x19x512x512_S8x512x512_d1 h_S_) v6 cst_1
  let v8 : FVec F S8x1x512x512 .f32 := broadcastInDim S8x1x512x512 ![0, 2, 3] bcast_S8x512x512_S8x1x512x512_0_2_3 v7
  let v9 : FVec F S8x1x512x512 .f32 := Host.log v8
  let v10 : FVec F S8x19x512x512 .f32 := broadcastInDim S8x19x512x512 ![0, 1, 2, 3] bcast_S8x1x512x512_S8x19x512x512_0_1_2_3 v9
  let v11 : FVec F S8x19x512x512 .f32 := subf v5 v10
  v11

def fn_where {F : FTy → Type} [FloatOps F] (arg0 : IVec S8x512x512 1) (arg1 : IVec S_ 32) (arg2 : IVec S8x512x512 32) : IVec S8x512x512 32 :=
  let v0 : IVec S_ 32 := id arg1
  let v1 : IVec S8x512x512 32 := broadcastInDim S8x512x512 ![] bcast_S_S8x512x512 v0
  let v2 : IVec S8x512x512 32 := select arg0 v1 arg2
  v2

def fn_take_along_axis {F : FTy → Type} [FloatOps F] (arg0 : FVec F S8x19x512x512 .f32) (arg1 : IVec S8x1x512x512 32) : FVec F S8x1x512x512 .f32 :=
  let c : IVec S_ 32 := constantI S_ 32 0#32
  let v0 : IVec S8x1x512x512 32 := broadcastInDim S8x1x512x512 ![] bcast_S_S8x1x512x512 c
  let v1 : IVec S8x1x512x512 1 := cmpi .slt arg1 v0
  let c_0 : IVec S_ 32 := constantI S_ 32 19#32
  let v2 : IVec S8x1x512x512 32 := broadcastInDim S8x1x512x512 ![] bcast_S_S8x1x512x512 c_0
  let v3 : IVec S8x1x512x512 32 := addi arg1 v2
  let v4 : IVec S8x1x512x512 32 := select v1 v3 arg1
  let v5 : IVec S8x1x512x512x1 32 := shapeCast S8x1x512x512x1 v4 shapeCasts_S8x1x512x512_S8x1x512x512x1
  let c_1 : IVec S1 32 := constantI S1 32 18#32
  let c_2 : IVec S_ 32 := constantI S_ 32 0#32
  let v6 : IVec S8x1x512x512x1 32 := broadcastInDim S8x1x512x512x1 ![] bcast_S_S8x1x512x512x1 c_2
  let v7 : IVec S8x1x512x512x1 1 := cmpi .sge v5 v6
  let v8 : IVec S1x1x1x1x1 32 := broadcastInDim S1x1x1x1x1 ![4] bcast_S1_S1x1x1x1x1_4 c_1
  let v9 : IVec S8x1x512x512x1 32 := broadcastInDim S8x1x512x512x1 ![0, 1, 2, 3, 4] bcast_S1x1x1x1x1_S8x1x512x512x1_0_1_2_3_4 v8
  let v10 : IVec S8x1x512x512x1 1 := cmpi .sle v5 v9
  let v11 : IVec S8x1x512x512x1 1 := andi v7 v10
  let c_3 : IVec S_ 1 := constantI S_ 1 1#1
  let v12 : IVec S8x1x512x512 1 := (fun x v => Host.reduce IntOp.andi x v reducesTo_S8x1x512x512x1_S8x1x512x512_d4 h_S_) v11 c_3
  let v13 : FVec F S8x1x512x512 .f32 := (fun x i => Host.gather gather_S8x19x512x512_S8x1x512x512x1_S8x1x512x512_n_1_023_023_1_4_1111 x i) arg0 v5
  let cst : FVec F S_ .f32 := constant S_ .f32 0x7FC00000#32
  let v14 : FVec F S8x1x512x512 .f32 := broadcastInDim S8x1x512x512 ![] bcast_S_S8x1x512x512 cst
  let v15 : FVec F S8x1x512x512 .f32 := select v12 v13 v14
  v15

def fn_where_0 {F : FTy → Type} [FloatOps F] (arg0 : IVec S8x512x512 1) (arg1 : FVec F S_ .f32) (arg2 : FVec F S8x512x512 .f32) : FVec F S8x512x512 .f32 :=
  let v0 : FVec F S_ .f32 := id arg1
  let v1 : FVec F S8x512x512 .f32 := broadcastInDim S8x512x512 ![] bcast_S_S8x512x512 v0
  let v2 : FVec F S8x512x512 .f32 := select arg0 v1 arg2
  v2

def fn_where_1 {F : FTy → Type} [FloatOps F] (arg0 : IVec S8x32640 1) (arg1 : FVec F S1x32640 .f32) (arg2 : FVec F S_ .f32) : FVec F S8x32640 .f32 :=
  let v0 : FVec F S_ .f32 := id arg2
  let v1 : FVec F S8x32640 .f32 := broadcastInDim S8x32640 ![0, 1] bcast_S1x32640_S8x32640_0_1 arg1
  let v2 : FVec F S8x32640 .f32 := broadcastInDim S8x32640 ![] bcast_S_S8x32640 v0
  let v3 : FVec F S8x32640 .f32 := select arg0 v1 v2
  v3

def fn_part2 {F : FTy → Type} [FloatOps F] (main_arg1 : IVec S8x512x512 32) (main_v27 : FVec F S8 .f32) (main_v31 : FVec F S8 .f32) (main_v34 : IVec S8x19x512x512 1) (main_v35 : IVec S8x512x512 32) : IVec S8x19x512x512 1 × IVec S8x512x512 1 × IVec S8 1 :=
  let main_v36 : IVec S8x512x512 1 := cmpi .sge main_arg1 main_v35
  let main_c_8 : IVec S_ 32 := constantI S_ 32 19#32
  let main_v37 : IVec S8x512x512 32 := broadcastInDim S8x512x512 ![] bcast_S_S8x512x512 main_c_8
  let main_v38 : IVec S8x512x512 1 := cmpi .slt main_arg1 main_v37
  let main_v39 : IVec S8x512x512 1 := andi main_v36 main_v38
  let main_cst_9 : FVec F S_ .f32 := constant S_ .f32 0x474CCC00#32
  let main_v40 : FVec F S8 .f32 := broadcastInDim S8 ![] bcast_S_S8 main_cst_9
  let main_v41 : IVec S8 1 := cmpf .ole main_v27 main_v40
  let main_cst_10 : FVec F S_ .f32 := constant S_ .f32 0x474CCC00#32
  let main_v42 : FVec F S8 .f32 := broadcastInDim S8 ![] bcast_S_S8 main_cst_10
  let main_v43 : IVec S8 1 := cmpf .oge main_v31 main_v42
  let main_v44 : IVec S8 1 := andi main_v41 main_v43
  (main_v34, main_v39, main_v44)

def fn_part1 {F : FTy → Type} [FloatOps F] (main_arg0 : FVec F S8x19x512x512 .f32) (main_arg1 : IVec S8x512x512 32) (main_v9 : FVec F S8x262144 .f32) (main_v11 : FVec F S8x1 .f32) (main_v15 : FVec F S32640 .f32) (main_v17 : FVec F S8x32640 .f32) : IVec S8x19x512x512 1 × IVec S8x512x512 1 × IVec S8 1 :=
  let main_v18 : FVec F S8x32640 .f32 := broadcastInDim S8x32640 ![0, 1] bcast_S8x1_S8x32640_0_1 main_v11
  let main_v19 : IVec S8x32640 1 := cmpf .ole main_v17 main_v18
  let main_v20 : FVec F S1x32640 .f32 := broadcastInDim S1x32640 ![1] bcast_S32640_S1x32640_1 main_v15
  let main_cst_2 : FVec F S_ .f32 := constant S_ .f32 0x00000000#32
  let main_v21 : FVec F S8x32640 .f32 := fn_where_1 (F := F) main_v19 main_v20 main_cst_2
  let main_cst_3 : FVec F S_ .f32 := constant S_ .f32 0xFF800000#32
  let main_v22 : FVec F S8 .f32 := (fun x v => Host.reduce FloatOps.maximumf x v reducesTo_S8x32640_S8_d1 h_S_) main_v21 main_cst_3
  let main_v23 : FVec F S8x1 .f32 := broadcastInDim S8x1 ![0] bcast_S8_S8x1_0 main_v22
  let main_v24 : FVec F S8x262144 .f32 := broadcastInDim S8x262144 ![0, 1] bcast_S8x1_S8x262144_0_1 main_v23
  let main_v25 : IVec S8x262144 1 := cmpf .ogt main_v9 main_v24
  let main_v26 : FVec F S8x262144 .f32 := uitofp .f32 main_v25
  let main_cst_4 : FVec F S_ .f32 := constant S_ .f32 0x00000000#32
  let main_v27 : FVec F S8 .f32 := (fun x v => Host.reduceAdd x v reducesTo_S8x262144_S8_d1 h_S_) main_v26 main_cst_4
  let main_v28 : FVec F S8x262144 .f32 := broadcastInDim S8x262144 ![0, 1] bcast_S8x1_S8x262144_0_1 main_v23
  let main_v29 : IVec S8x262144 1 := cmpf .oge main_v9 main_v28
  let main_v30 : FVec F S8x262144 .f32 := uitofp .f32 main_v29
  let main_cst_5 : FVec F S_ .f32 := constant S_ .f32 0x00000000#32
  let main_v31 : FVec F S8 .f32 := (fun x v => Host.reduceAdd x v reducesTo_S8x262144_S8_d1 h_S_) main_v30 main_cst_5
  let main_v32 : FVec F S8x19x512x512 .f32 := Host.absf main_arg0
  let main_cst_6 : FVec F S_ .f32 := constant S_ .f32 0x7F800000#32
  let main_v33 : FVec F S8x19x512x512 .f32 := broadcastInDim S8x19x512x512 ![] bcast_S_S8x19x512x512 main_cst_6
  let main_v34 : IVec S8x19x512x512 1 := cmpf .olt main_v32 main_v33
  let main_c_7 : IVec S_ 32 := constantI S_ 32 4294967295#32
  let main_v35 : IVec S8x512x512 32 := broadcastInDim S8x512x512 ![] bcast_S_S8x512x512 main_c_7
  fn_part2 (F := F) main_arg1 main_v27 main_v31 main_v34 main_v35

def fn {F : FTy → Type} [FloatOps F] (main_arg0 : FVec F S8x19x512x512 .f32) (main_arg1 : IVec S8x512x512 32) : IVec S8x19x512x512 1 × IVec S8x512x512 1 × IVec S8 1 :=
  let main_v0 : FVec F S8x19x512x512 .f32 := fn_log_softmax (F := F) main_arg0
  let main_c : IVec S_ 32 := constantI S_ 32 4294967295#32
  let main_v1 : IVec S8x512x512 32 := broadcastInDim S8x512x512 ![] bcast_S_S8x512x512 main_c
  let main_v2 : IVec S8x512x512 1 := cmpi .eq main_arg1 main_v1
  let main_c_0 : IVec S_ 32 := constantI S_ 32 0#32
  let main_v3 : IVec S8x512x512 32 := fn_where (F := F) main_v2 main_c_0 main_arg1
  let main_v4 : IVec S8x1x512x512 32 := broadcastInDim S8x1x512x512 ![0, 2, 3] bcast_S8x512x512_S8x1x512x512_0_2_3 main_v3
  let main_v5 : FVec F S8x1x512x512 .f32 := fn_take_along_axis (F := F) main_v0 main_v4
  let main_v6 : FVec F S8x512x512 .f32 := shapeCast S8x512x512 main_v5 shapeCasts_S8x1x512x512_S8x512x512
  let main_v7 : FVec F S8x512x512 .f32 := Host.negf main_v6
  let main_cst : FVec F S_ .f32 := constant S_ .f32 0x00000000#32
  let main_v8 : FVec F S8x512x512 .f32 := fn_where_0 (F := F) main_v2 main_cst main_v7
  let main_v9 : FVec F S8x262144 .f32 := shapeCast S8x262144 main_v8 shapeCasts_S8x512x512_S8x262144
  let main_v10 : FVec F S8x16384 .f32 := (extractStridedSlice S8x16384 ![0, 0] · slices_S8x262144_S8x16384_0_0) main_v9
  let main_values : FVec F S8x3277 .f32 := (fun x => (Host.topK S8x3277 1 (FloatOps.cmpfTotal .gt) x sliceFits_S8x16384_S8x3277).1) main_v10
  let main_indices : IVec S8x3277 32 := (fun x => (Host.topK S8x3277 1 (FloatOps.cmpfTotal .gt) x sliceFits_S8x16384_S8x3277).2) main_v10
  let main_v11 : FVec F S8x1 .f32 := (extractStridedSlice S8x1 ![0, 3276] · slices_S8x3277_S8x1_0_3276) main_values
  let main_v12 : IVec S32640 32 := iotaInDim S32640 32 0
  let main_c_1 : IVec S_ 32 := constantI S_ 32 16#32
  let main_v13 : IVec S32640 32 := broadcastInDim S32640 ![] bcast_S_S32640 main_c_1
  let main_v14 : IVec S32640 32 := Host.shli main_v12 main_v13
  let main_v15 : FVec F S32640 .f32 := bitcastToFloat .f32 main_v14
  let main_v16 : FVec F S1x32640 .f32 := broadcastInDim S1x32640 ![1] bcast_S32640_S1x32640_1 main_v15
  let main_v17 : FVec F S8x32640 .f32 := broadcastInDim S8x32640 ![0, 1] bcast_S1x32640_S8x32640_0_1 main_v16
  fn_part1 (F := F) main_arg0 main_arg1 main_v9 main_v11 main_v15 main_v17
-- ==== Kernel.lean ====
abbrev S8x19x512x512 : Shape := ⟨4, ![8, 19, 512, 512]⟩
abbrev S8x512x512 : Shape := ⟨3, ![8, 512, 512]⟩
abbrev S8x1x128 : Shape := ⟨3, ![8, 1, 128]⟩
abbrev S8x1x1 : Shape := ⟨3, ![8, 1, 1]⟩
abbrev S8 : Shape := ⟨1, ![8]⟩
abbrev S_ : Shape := ⟨0, ![]⟩
abbrev S1x19x512x512 : Shape := ⟨4, ![1, 19, 512, 512]⟩
abbrev S1x512x512 : Shape := ⟨3, ![1, 512, 512]⟩
abbrev S1x1x128 : Shape := ⟨3, ![1, 1, 128]⟩
abbrev S2x512x512 : Shape := ⟨3, ![2, 512, 512]⟩
abbrev S1 : Shape := ⟨1, ![1]⟩
abbrev S2 : Shape := ⟨1, ![2]⟩
abbrev S19x512x512 : Shape := ⟨3, ![19, 512, 512]⟩
abbrev S512x512 : Shape := ⟨2, ![512, 512]⟩
abbrev S1x32x512 : Shape := ⟨3, ![1, 32, 512]⟩
abbrev S32x512 : Shape := ⟨2, ![32, 512]⟩
abbrev S1x1x1 : Shape := ⟨3, ![1, 1, 1]⟩

abbrev nBuf : Space → Nat
  | .hbm => 9
  | .vmem => 7
  | .smem => 2
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x1x128, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x19x512x512, .f32⟩
  | .local _ .vmem, ⟨1, _⟩ => ⟨S1x19x512x512, .f32⟩
  | .local _ .vmem, ⟨2, _⟩ => ⟨S1x512x512, .i32⟩
  | .local _ .vmem, ⟨3, _⟩ => ⟨S1x512x512, .i32⟩
  | .local _ .vmem, ⟨4, _⟩ => ⟨S1x1x128, .f32⟩
  | .local _ .vmem, ⟨5, _⟩ => ⟨S1x1x128, .f32⟩
  | .local _ .vmem, ⟨6, _⟩ => ⟨S2x512x512, .bf16⟩
  | .local _ .smem, ⟨0, _⟩ => ⟨S1, .i32⟩
  | .local _ .smem, ⟨1, _⟩ => ⟨S2, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_cst_0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.smem, 0, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 1], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32_21 : BitVec 32 := 2#32
  let v107 : BitVec 32 := Scalar.remsi arg0 c2_i32_21
  let v109 : Index := Scalar.indexCast v107
  let arg1 : BitVec 32 := BitVec.ofNat 32 (i 1).val
  let c512_i32 : BitVec 32 := 512#32
  let v108 : BitVec 32 := Scalar.muli arg1 c512_i32
  let v110 : Index := Scalar.indexCast v108
  let c0_22 : Index := 0#32
  ![v109.toNat, v110.toNat, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_0 : BitVec 32 := 0#32
  let v5 : BitVec 1 := Scalar.cmpi .ne v4 c0_i32_0
  v5

def k0_cond3 (i : grid0.Coords) : BitVec 1 :=
  let arg1 : BitVec 32 := BitVec.ofNat 32 (i 1).val
  let c0_i32_2 : BitVec 32 := 0#32
  let v8 : BitVec 1 := Scalar.cmpi .eq arg1 c0_i32_2
  let v9 : BitVec 32 := Scalar.extui v8
  let c0_i32_3 : BitVec 32 := 0#32
  let v10 : BitVec 1 := Scalar.cmpi .ne v9 c0_i32_3
  v10

def k0_off2 (i : grid0.Coords) : Fin 3 → Nat :=
  let arg0 : BitVec 32 := BitVec.ofNat 32 (i 0).val
  let c1_i32_1 : BitVec 32 := 1#32
  let v6 : BitVec 32 := Scalar.subi arg0 c1_i32_1
  let c2_i32 : BitVec 32 := 2#32
  let v7 : BitVec 32 := Scalar.remsi v6 c2_i32
  let v44 : Index := Scalar.indexCast v7
  let c0_12 : Index := 0#32
  let c0_13 : Index := 0#32
  ![v44.toNat, 0, 0]
@[reducible] def k0_t1_loop : Scf.Loop 32 :=
  let c0_i32_15 : BitVec 32 := 0#32
  let c15_i32 : BitVec 32 := 15#32
  let v47 : BitVec 32 := Scalar.addi c0_i32_15 c15_i32
  let c1_i32_16 : BitVec 32 := 1#32
  ⟨c0_i32_15, v47, c1_i32_16⟩
def k0_off3 (i : grid0.Coords) : Fin 3 → Nat :=
  let arg0 : BitVec 32 := BitVec.ofNat 32 (i 0).val
  let c1_i32_1 : BitVec 32 := 1#32
  let v6 : BitVec 32 := Scalar.subi arg0 c1_i32_1
  let c2_i32 : BitVec 32 := 2#32
  let v7 : BitVec 32 := Scalar.remsi v6 c2_i32
  let v16 : Index := Scalar.indexCast v7
  let arg1 : BitVec 32 := BitVec.ofNat 32 (i 1).val
  let c512_i32 : BitVec 32 := 512#32
  let v15 : BitVec 32 := Scalar.muli arg1 c512_i32
  let v17 : Index := Scalar.indexCast v15
  let c0_4 : Index := 0#32
  ![v16.toNat, v17.toNat, 0]
def k0_cond4 (i : grid0.Coords) : BitVec 1 :=
  let arg1 : BitVec 32 := BitVec.ofNat 32 (i 1).val
  let c0_i32_10 : BitVec 32 := 0#32
  let v41 : BitVec 1 := Scalar.cmpi .eq arg1 c0_i32_10
  let v42 : BitVec 32 := Scalar.extui v41
  let c0_i32_11 : BitVec 32 := 0#32
  let v43 : BitVec 1 := Scalar.cmpi .ne v42 c0_i32_11
  v43

def cc0_transform_0 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c0_i32 : BitVec 32 := 0#32
  let v2 : BitVec 32 := Scalar.select v1 arg1 c0_i32
  let c0_i32_0 : BitVec 32 := 0#32
  let c0_i32_1 : BitVec 32 := 0#32
  let c0_i32_2 : BitVec 32 := 0#32
  ![v0.toNat, c0_i32_0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x19x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x262144 : Shape := ⟨2, ![8, 262144]⟩
abbrev S8x52428 : Shape := ⟨2, ![8, 52428]⟩
abbrev S8 : Shape := ⟨1, ![8]⟩

abbrev nBuf : Space → Nat
  | .hbm => 65
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x1x512x512, .f32⟩
  | .hbm, ⟨15, _⟩ => ⟨S8x19x512x512, .f32⟩
  | .hbm, ⟨16, _⟩ => ⟨S8x19x512x512, .f32⟩
  | .hbm, ⟨17, _⟩ => ⟨S_, .i32⟩
  | .hbm, ⟨18, _⟩ => ⟨S8x512x512, .i32⟩
  | .hbm, ⟨19, _⟩ => ⟨S8x512x512, .i1⟩
  | .hbm, ⟨20, _⟩ => ⟨S_, .i32⟩
  | .hbm, ⟨21, _⟩ => ⟨S_, .i32⟩
  | .hbm, ⟨22, _⟩ => ⟨S8x512x512, .i32⟩
  | .hbm, ⟨23, _⟩ => ⟨S8x512x512, .i32⟩
  | .hbm, ⟨24, _⟩ => ⟨S8x1x512x512, .i32⟩
  | .hbm, ⟨25, _⟩ => ⟨S_, .i32⟩
  | .hbm, ⟨26, _⟩ => ⟨S8x1x512x512, .i32⟩
  | .hbm, ⟨27, _⟩ => ⟨S8x1x512x512, .i1⟩
  | .hbm, ⟨28, _⟩ => ⟨S_, .i32⟩
  | .hbm, ⟨29, _⟩ => ⟨S8x1x512x512, .i32⟩
  | .hbm, ⟨30, _⟩ => ⟨S8x1x512x512, .i32⟩
  | .hbm, ⟨31, _⟩ => ⟨S8x1x512x512, .i32⟩
  | .hbm, ⟨32, _⟩ => ⟨S8x1x512x512x1, .i32⟩
  | .hbm, ⟨33, _⟩ => ⟨S1, .i32⟩
  | .hbm, ⟨34, _⟩ => ⟨S_, .i32⟩
  | .hbm, ⟨35, _⟩ => ⟨S8x1x512x512x1, .i32⟩
  | .hbm, ⟨36, _⟩ => ⟨S8x1x512x512x1, .i1⟩
  | .hbm, ⟨37, _⟩ => ⟨S1x1x1x1x1, .i32⟩
  | .hbm, ⟨38, _⟩ => ⟨S8x1x512x512x1, .i32⟩
  | .hbm, ⟨39, _⟩ => ⟨S8x1x512x512x1, .i1⟩
  | .hbm, ⟨40, _⟩ => ⟨S8x1x512x512x1, .i1⟩
  | .hbm, ⟨41, _⟩ => ⟨S_, .i1⟩
  | .hbm, ⟨42, _⟩ => ⟨S8x1x512x512, .i1⟩
  | .hbm, ⟨43, _⟩ => ⟨S8x1x512x512, .f32⟩
  | .hbm, ⟨44, _⟩ => ⟨S_, .f32⟩
  | .hbm, ⟨45, _⟩ => ⟨S8x1x512x512, .f32⟩
  | .hbm, ⟨46, _⟩ => ⟨S8x1x512x512, .f32⟩
  | .hbm, ⟨47, _⟩ => ⟨S8x512x512, .f32⟩
  | .hbm, ⟨48, _⟩ => ⟨S8x512x512, .f32⟩
  | .hbm, ⟨49, _⟩ => ⟨S_, .f32⟩
  | .hbm, ⟨50, _⟩ => ⟨S_, .f32⟩
  | .hbm, ⟨51, _⟩ => ⟨S8x512x512, .f32⟩
  | .hbm, ⟨52, _⟩ => ⟨S8x512x512, .f32⟩
  | .hbm, ⟨53, _⟩ => ⟨S8x262144, .f32⟩
  | .hbm, ⟨54, _⟩ => ⟨S8x52428, .f32⟩
  | .hbm, ⟨55, _⟩ => ⟨S8x52428, .i32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_call3_v0 : Ref sig .tc := ⟨.hbm, 50, rfl⟩
abbrev main_call3_v1 : Ref sig .tc := ⟨.hbm, 51, rfl⟩
abbrev main_v8 : Ref sig .tc := ⟨.hbm, 52, rfl⟩
abbrev main_v9 : Ref sig .tc := ⟨.hbm, 53, rfl⟩
abbrev main_values : Ref sig .tc := ⟨.hbm, 54, rfl⟩
abbrev main_indices : Ref sig .tc := ⟨.hbm, 55, rfl⟩
abbrev main_cst_1 : Ref sig .tc := ⟨.hbm, 56, rfl⟩
abbrev main_v10 : Ref sig .tc := ⟨.hbm, 57, rfl⟩
abbrev main_cst_2 : Ref sig .tc := ⟨.hbm, 58, rfl⟩
abbrev main_v11 : Ref sig .tc := ⟨.hbm, 59, rfl⟩
abbrev main_v12 : Ref sig .tc := ⟨.hbm, 60, rfl⟩
abbrev main_cst_3 : Ref sig .tc := ⟨.hbm, 61, rfl⟩
abbrev main_v13 : Ref sig .tc := ⟨.hbm, 62, rfl⟩
abbrev main_cst_4 : Ref sig .tc := ⟨.hbm, 63, rfl⟩
abbrev main_v14 : Ref sig .tc := ⟨.hbm, 64, rfl⟩

abbrev nD : Nat := 1
abbrev τ : Topo := Topo.v7x

variable {F : FTy → Type} [FloatOps F]
-- ==== Proof.Ref.Frame.lean ====
/- The reference's run: it ends, its arguments unchanged, and it declares no counter. -/
module

public import proofs.«01_k».proof.Proof.Gen.ReferenceIdeal.Run
public import Idealize.ShloMosaic.Lib.Quiescent

@[expose] public section

noncomputable section

namespace Cert.ReferenceIdeal.Hand

open Idealize.ShloMosaic Idealize.ShloMosaic.TcCoe Cert.ReferenceIdeal

variable {F : FTy → Type} [FloatOps F]

/-- Every run of the reference ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.ReferenceIdeal.Value.run m ρ)

end Cert.ReferenceIdeal.Hand

end
-- ==== Proof.Ideal.Kit.lean ====
/- What the three kinds of grid points share: the branch conditions as conditions on the point, where the output
   window is left alone, the staging and scratch buffers, and the region's resources with the scratch named. -/
module

public import proofs.«01_k».proof.Proof.Gen.KernelIdeal.Frame
public import proofs.«01_k».proof.Proof.Gen.KernelIdeal.Points
public import proofs.«01_k».proof.Proof.Gen.KernelIdeal.Skeleton
public import proofs.«01_k».proof.Proof.Gen.KernelIdeal.Loops
public import Idealize.ShloMosaic.Lib.Claim
public import Idealize.ShloMosaic.Lib.Pipeline.FrameBody

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The losses of a sample are computed at the points before point 8. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- A sample's losses are selected from at the points from point 1 on. -/
theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)
/-- The threshold is searched at every such point. -/
theorem cond3_all : ∀ t : Fin cfg0.N, k0_cond3 (grid0.coords t) = 1#1 :=
  (by decide +kernel : ∀ t : Fin grid0.N, k0_cond3 (grid0.coords t) = 1#1)
/-- The result is stored at every such point. -/
theorem cond4_all : ∀ t : Fin cfg0.N, k0_cond4 (grid0.coords t) = 1#1 :=
  (by decide +kernel : ∀ t : Fin grid0.N, k0_cond4 (grid0.coords t) = 1#1)

/-- The first point stores nothing into the output window. -/
theorem idle_zero : ∀ t : Fin cfg0.N, t.val = 0 → cfg0.idle 2 (grid0.coords t) = true := by decide +kernel
/-- The first point does not write the output window back. -/
theorem noFlush_zero : ∀ t : Fin cfg0.N, t.val = 0 → (cfg0.win 2).flush t = false := by decide +kernel
/-- Every later point stores into the output window. -/
theorem live_pos : ∀ t : Fin cfg0.N, 1 ≤ t.val → cfg0.idle 2 (grid0.coords t) = false := by decide +kernel

/-- The slot a point writes its losses to: its number's parity. -/
theorem off1_eq : ∀ t : Fin cfg0.N, k0_off1 (grid0.coords t) = ![t.val % 2, 0, 0] :=
  (by decide +kernel : ∀ t : Fin grid0.N, k0_off1 (grid0.coords t) = ![t.val % 2, 0, 0])
/-- The slot a point reads the first rows of the losses from: the other one. -/
theorem off2_eq : ∀ t : Fin cfg0.N, 1 ≤ t.val → k0_off2 (grid0.coords t) = ![(t.val + 1) % 2, 0, 0] :=
  (by decide +kernel : ∀ t : Fin grid0.N, 1 ≤ t.val → k0_off2 (grid0.coords t) = ![(t.val + 1) % 2, 0, 0])
/-- The slot a point reads all the losses from: the other one. -/
theorem off3_eq : ∀ t : Fin cfg0.N, 1 ≤ t.val → k0_off3 (grid0.coords t) = ![(t.val + 1) % 2, 0, 0] :=
  (by decide +kernel : ∀ t : Fin grid0.N, 1 ≤ t.val → k0_off3 (grid0.coords t) = ![(t.val + 1) % 2, 0, 0])

/-- The closed forms of the three offsets, as instances. -/
instance closedOff1 (t : Fin cfg0.N) : ClosedOff (k0_off1 (grid0.coords t)) := ⟨![t.val % 2, 0, 0], off1_eq t⟩
instance closedOff2 (t : Fin cfg0.N) [h : Fact (1 ≤ t.val)] : ClosedOff (k0_off2 (grid0.coords t)) :=
  ⟨![(t.val + 1) % 2, 0, 0], off2_eq t h.out⟩
instance closedOff3 (t : Fin cfg0.N) [h : Fact (1 ≤ t.val)] : ClosedOff (k0_off3 (grid0.coords t)) :=
  ⟨![(t.val + 1) % 2, 0, 0], off3_eq t h.out⟩

/-- The staging buffer of the logits at point `t`. -/
abbrev ms0 (t : Fin cfg0.N) : Memref sig .tc .vmem S1x19x512x512 .f32 := win0_0.stage (cfg0.slots t 0)
abbrev hs0 (t : Fin cfg0.N) : (ms0 t).IsWhole := hstage0_0 ((cfg0.slots t 0).cast nbuf0_0)
/-- The staging buffer of the targets at point `t`. -/
abbrev ms1 (t : Fin cfg0.N) : Memref sig .tc .vmem S1x512x512 .i32 := win0_1.stage (cfg0.slots t 1)
abbrev hs1 (t : Fin cfg0.N) : (ms1 t).IsWhole := hstage0_1 ((cfg0.slots t 1).cast nbuf0_1)
/-- The staging buffer of the result at point `t`. -/
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
/-- The two slots of losses. -/
abbrev scLoss : Memref sig .tc .vmem S2x512x512 .bf16 := Memref.whole cc0_scratch0
/-- The word the search ends with. -/
abbrev scWord : Memref sig .tc .smem S1 .i32 := Memref.whole cc0_scratch1
/-- The count and the sum. -/
abbrev scAcc : Memref sig .tc .smem S2 .f32 := Memref.whole cc0_scratch2

/-- The region's resources before the first point, with the three scratch buffers named. -/
theorem PhiA_eq (c : Dev nD) :
    (Pipeline.ΦA spec0 c : sProp 𝕄)
      = iprop(iprop((∃ d, owns (c : Thread nD τ) scLoss fullShare d) ∗ (∃ d, owns (c : Thread nD τ) scWord fullShare d)
          ∗ (∃ d, owns (c : Thread nD τ) scAcc fullShare d)) ∗ (∃ r, prngReg c r)) := by
  unfold Pipeline.ΦA; rw [scopedRest0_eq]; simp only [scLoss, scWord, scAcc, owns_whole]; try rfl

end Cert.KernelIdeal.Hand

end
-- ==== Proof.Ideal.Run.lean ====
/- The kernel's body at the three kinds of grid points. -/
module

public import proofs.«01_k».proof.Proof.Ideal.Kit
public import Idealize.ShloMosaic.Lib.WritesUnit
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A buffer of two slots holds `w` in slot `s`. -/
def Holds (d : Vec F S2x512x512 .bf16) (s : ℕ) (w : Vec F S1x512x512 .bf16) : Prop :=
  ∀ (y : S2x512x512.Idx) (x : S1x512x512.Idx), (y 0).val = s → (y 1).val = (x 1).val → (y 2).val = (x 2).val → d y = w x

/-- The losses of one sample: from its logits and its targets. -/
def lossOf (x0 : Vec F S1x19x512x512 .f32) (x1 : Vec F S1x512x512 .i32) : Vec F S1x512x512 .bf16 :=
  k0_pay1 (F := F) (k0_pay10 (F := F) x1)
    (k0_pay17 (k0_pay9 x0) (k0_pay11 x0) (k0_pay12 (F := F) x1) (k0_pay13 (F := F) x1) (k0_pay14 (F := F) x1)
      (k0_pay15 (F := F) x1) (k0_pay16 (F := F) x1))

/-- One pass of the search: the candidate word is taken when enough of the rows are at or above its value. -/
def pass (v : Vec F S1x32x512 .bf16) (k : Fin k0_t1_loop.trips) (acc : BitVec 32) : BitVec 32 :=
  Scalar.select (Scalar.cmpf .oge (k0_pay2 v k acc) (Scalar.ofBits (F := F) .f32 0x454CD000#32))
    (Scalar.addi acc (Scalar.shli 1#32 (Scalar.subi 14#32 (Scf.iv 0#32 1#32 k)))) acc

/-- The word the search ends with. -/
def word (v : Vec F S1x32x512 .bf16) : BitVec 32 := Scf.fold (pass v) 0#32

/-- The first 32 rows of a sample's losses. -/
def firstRows (v : Vec F S1x512x512 .bf16) : Vec F S1x32x512 .bf16 :=
  fun x => v fun a => Fin.castLE ((by decide : ∀ a, S1x32x512.size a ≤ S1x512x512.size a) a) (x a)

/-- The result of one sample, broadcast over its block, from the sample's losses. -/
def result (v : Vec F S1x512x512 .bf16) : Vec F S1x1x128 .f32 :=
  k0_pay8 (F := F) (word (firstRows v)) v (Scalar.ofBits .f32 0x00000000#32) (Scalar.ofBits .f32 0x00000000#32)

/-- A slot just written holds what was written. -/
theorem holds_write (m5 : Memref sig .tc .vmem S2x512x512 .bf16) (f : m5.view.ty.Contents (Elt F)) {off : Fin 3 → ℕ} {s : ℕ}
    (inb : ∀ a, off a + S1x512x512.size a ≤ S2x512x512.size a) (w : Vec F S1x512x512 .bf16) (ho : off = ![s, 0, 0]) :
    Holds (m5.view.read (Elt F) (m5.view.writes (Elt F) f [⟨Rect.unit off S1x512x512.size inb, w⟩])) s w := by
  intro y x h0 h1 h2
  refine View.read_writes_cons_unit_of_mem m5.view f inb w [] y x ho fun a => ?_
  have hx : (x 0).val = 0 := Nat.lt_one_iff.mp (x 0).isLt
  fin_cases a
  · show (y 0).val = s + (x 0).val
    omega
  · show (y 1).val = 0 + (x 1).val
    omega
  · show (y 2).val = 0 + (x 2).val
    omega

/-- The other slot keeps what it held. -/
theorem holds_other (m5 : Memref sig .tc .vmem S2x512x512 .bf16) (h5 : m5.IsWhole) {off : Fin 3 → ℕ} {s s' : ℕ}
    (inb : ∀ a, off a + S1x512x512.size a ≤ S2x512x512.size a) (w p : Vec F S1x512x512 .bf16) (ho : off = ![s, 0, 0]) (hs : s' ≠ s)
    (xs : Vec F S2x512x512 .bf16) (hp : Holds xs s' p) :
    Holds (m5.view.read (Elt F) (m5.view.writes (Elt F) (h5.unread xs) [⟨Rect.unit off S1x512x512.size inb, w⟩])) s' p := by
  intro y x h0 h1 h2
  have hy : (y 0).val < s ∨ s + 1 ≤ (y 0).val := by omega
  rw [View.read_writes_cons_unit_of_not_mem m5.view _ inb w [] y ho 0 hy, View.writes_nil, h5.read_unread]
  exact hp y x h0 h1 h2

/-- Loading a slot loads what it holds. -/
theorem readAt_slot (m5 : Memref sig .tc .vmem S2x512x512 .bf16) (f : m5.view.ty.Contents (Elt F)) {off : Fin 3 → ℕ} {s : ℕ}
    (inb : ∀ a, off a + S1x512x512.size a ≤ S2x512x512.size a) (p : Vec F S1x512x512 .bf16) (ho : off = ![s, 0, 0])
    (h : Holds (m5.view.read (Elt F) f) s p) :
    m5.view.readAt (Elt F) (Rect.unit (s := S2x512x512) off S1x512x512.size inb).toLoadRect f = p := by
  subst ho
  funext x
  have hx : (x 0).val = 0 := Nat.lt_one_iff.mp (x 0).isLt
  refine h _ x ?_ ?_ ?_
  · show s + 1 * (x 0).val = s
    omega
  · show 0 + 1 * (x 1).val = (x 1).val
    omega
  · show 0 + 1 * (x 2).val = (x 2).val
    omega

/-- Loading the first rows of a slot loads the first rows of what it holds. -/
theorem readAt_rows (m5 : Memref sig .tc .vmem S2x512x512 .bf16) (f : m5.view.ty.Contents (Elt F)) {off : Fin 3 → ℕ} {s : ℕ}
    (inb : ∀ a, off a + S1x32x512.size a ≤ S2x512x512.size a) (p : Vec F S1x512x512 .bf16) (ho : off = ![s, 0, 0])
    (h : Holds (m5.view.read (Elt F) f) s p) :
    m5.view.readAt (Elt F) (Rect.unit (s := S2x512x512) off S1x32x512.size inb).toLoadRect f = firstRows p := by
  subst ho
  funext x
  have hx : (x 0).val = 0 := Nat.lt_one_iff.mp (x 0).isLt
  refine h _ _ ?_ ?_ ?_
  · show s + 1 * (x 0).val = s
    omega
  · show 0 + 1 * (x 1).val = (x 1).val
    omega
  · show 0 + 1 * (x 2).val = (x 2).val
    omega

/-- Loading a whole buffer of logits loads its contents. -/
theorem readAt_logits (m2 : Memref sig .tc .vmem S1x19x512x512 .f32) (h2 : m2.IsWhole) (x0 : Vec F S1x19x512x512 .f32)
    (inb : ∀ a, (![0, 0, 0, 0] : Fin 4 → ℕ) a + (![1, 19, 512, 512] : Fin 4 → ℕ) a ≤ S1x19x512x512.size a) :
    m2.view.readAt (Elt F) (Rect.unit (s := S1x19x512x512) ![0, 0, 0, 0] ![1, 19, 512, 512] inb).toLoadRect (h2.unread x0) = x0 := by
  funext x
  rw [h2.readAt_unread]
  congr 1
  funext a
  apply Fin.ext
  show (![0, 0, 0, 0] : Fin 4 → ℕ) a + 1 * (x a).val = (x a).val
  fin_cases a <;> simp

/-- Loading a whole buffer of targets loads its contents. -/
theorem readAt_targets (m3 : Memref sig .tc .vmem S1x512x512 .i32) (h3 : m3.IsWhole) (x1 : Vec F S1x512x512 .i32)
    (inb : ∀ a, (![0, 0, 0] : Fin 3 → ℕ) a + (![1, 512, 512] : Fin 3 → ℕ) a ≤ S1x512x512.size a) :
    m3.view.readAt (Elt F) (Rect.unit (s := S1x512x512) ![0, 0, 0] ![1, 512, 512] inb).toLoadRect (h3.unread x1) = x1 := by
  funext x
  rw [h3.readAt_unread]
  congr 1
  funext a
  apply Fin.ext
  show (![0, 0, 0] : Fin 3 → ℕ) a + 1 * (x a).val = (x a).val
  fin_cases a <;> simp

/-- A block stored whole reads back as stored. -/
theorem read_block (m4 : Memref sig .tc .vmem S1x1x128 .f32) (f : m4.view.ty.Contents (Elt F))
    (inb : ∀ a, (![0, 0, 0] : Fin 3 → ℕ) a + S1x1x128.size a ≤ S1x1x128.size a) (w : Vec F S1x1x128 .f32) :
    m4.view.read (Elt F) (m4.view.writes (Elt F) f [⟨Rect.unit (s := S1x1x128) ![0, 0, 0] S1x1x128.size inb, w⟩]) = w := by
  funext y
  refine View.read_writes_cons_unit_of_mem m4.view f inb w [] y y rfl fun a => ?_
  fin_cases a <;> simp

set_option maxHeartbeats 2000000 in
/-- The body at the first point: whatever the scratch holds, the point leaves the sample's losses in its slot and the output
    block as it was. -/
theorem runA (c : Dev nD) (t : Fin cfg0.N) (arg2 : Memref sig .tc .vmem S1x19x512x512 .f32) (harg2 : arg2.IsWhole)
    (arg3 : Memref sig .tc .vmem S1x512x512 .i32) (harg3 : arg3.IsWhole) (arg4 : Memref sig .tc .vmem S1x1x128 .f32) (harg4 : arg4.IsWhole)
    (arg5 : Memref sig .tc .vmem S2x512x512 .bf16) (harg5 : arg5.IsWhole) (arg6 : Memref sig .tc .smem S1 .i32) (harg6 : arg6.IsWhole)
    (arg7 : Memref sig .tc .smem S2 .f32) (harg7 : arg7.IsWhole)
    (hc1 : k0_cond1 (grid0.coords t) = 1#1) (hc2 : ¬k0_cond2 (grid0.coords t) = 1#1)
    (x0 : Vec F S1x19x512x512 .f32) (x1 : Vec F S1x512x512 .i32) (xi : Vec F S1x1x128 .f32) (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xi
            ∗ (∃ d, iprop(⌜Holds d (t.val % 2) (lossOf x0 x1)⌝ ∗ owns (c : Thread nD τ) arg5 fullShare d))
            ∗ (∃ d, owns (c : Thread nD τ) arg6 fullShare d) ∗ (∃ d, owns (c : Thread nD τ) arg7 fullShare d)) -∗ K ⟨⟩))
      ⊢ wp frame (wpE (defs₀ (F := F)) Variants.none c none) E
          (cc0__body (grid0.coords t) arg2 harg2 arg3 harg3 arg4 harg4 arg5 harg5 arg6 harg6 arg7 harg7) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%xs, %fs0, %hfs0, HS0⟩, ⟨%ds1, %fs1, -, HS1⟩, ⟨%ds2, %fs2, -, HS2⟩, Hk⟩
  obtain rfl := harg2.eq_unread hf0; obtain rfl := harg3.eq_unread hf1; obtain rfl := harg5.eq_unread hfs0
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr; swap
    · iexists _; isplitr; swap; · iexact HS0
      ipureintro; rfl
    ipureintro
    have hw : k0_pay1 (F := F) (runA.sl.r_1 c arg3 harg3 x1) (runA.sl.r_8 c arg2 harg2 arg3 harg3 x0 x1) = lossOf x0 x1 := by
      delta runA.sl.r_8; delta runA.sl.r runA.sl.r_1 runA.sl.r_2 runA.sl.r_3 runA.sl.r_4 runA.sl.r_5 runA.sl.r_6 runA.sl.r_7 lossOf; simp only [readAt_logits, readAt_targets]
    rw [hw]
    exact holds_write arg5 (harg5.unread xs) (k0_off1_inb (grid0.coords t) hc1) (lossOf x0 x1) (off1_eq t)
  isplitl [HS1]
  · iexists _, _; isplitr; swap; · iexact HS1
    ipureintro; rfl
  iexists _, _; isplitr; swap; · iexact HS2
  ipureintro; rfl

set_option maxHeartbeats 2000000 in
/-- The body at a point between the first and the last: with the losses `p` of the sample before in the other slot, the point
    leaves its sample's losses in its own slot and the result of `p` in the output block. -/
theorem runB (c : Dev nD) (t : Fin cfg0.N) (arg2 : Memref sig .tc .vmem S1x19x512x512 .f32) (harg2 : arg2.IsWhole)
    (arg3 : Memref sig .tc .vmem S1x512x512 .i32) (harg3 : arg3.IsWhole) (arg4 : Memref sig .tc .vmem S1x1x128 .f32) (harg4 : arg4.IsWhole)
    (arg5 : Memref sig .tc .vmem S2x512x512 .bf16) (harg5 : arg5.IsWhole) (arg6 : Memref sig .tc .smem S1 .i32) (harg6 : arg6.IsWhole)
    (arg7 : Memref sig .tc .smem S2 .f32) (harg7 : arg7.IsWhole)
    (hc1 : k0_cond1 (grid0.coords t) = 1#1) (hc2 : k0_cond2 (grid0.coords t) = 1#1) (hc3 : k0_cond3 (grid0.coords t) = 1#1)
    (hc4 : k0_cond4 (grid0.coords t) = 1#1)
    [h0 : Fact (1 ≤ t.val)] (x0 : Vec F S1x19x512x512 .f32) (x1 : Vec F S1x512x512 .i32) (xs : Vec F S2x512x512 .bf16)
    (p : Vec F S1x512x512 .bf16) (hp : Holds xs ((t.val + 1) % 2) p) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare (result p)
            ∗ (∃ d, iprop(⌜Holds d (t.val % 2) (lossOf x0 x1)⌝ ∗ owns (c : Thread nD τ) arg5 fullShare d))
            ∗ (∃ d, owns (c : Thread nD τ) arg6 fullShare d) ∗ (∃ d, owns (c : Thread nD τ) arg7 fullShare d)) -∗ K ⟨⟩))
      ⊢ wp frame (wpE (defs₀ (F := F)) Variants.none c none) E
          (cc0__body (grid0.coords t) arg2 harg2 arg3 harg3 arg4 harg4 arg5 harg5 arg6 harg6 arg7 harg7) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%d2, %f2, -, H2⟩, ⟨%fs0, %hfs0, HS0⟩, ⟨%ds1, %fs1, -, HS1⟩, ⟨%ds2, %fs2, -, HS2⟩, Hk⟩
  obtain rfl := harg2.eq_unread hf0; obtain rfl := harg3.eq_unread hf1; obtain rfl := harg5.eq_unread hfs0
  sl_exec (disch := first | sl_exact hc1 | sl_exact hc2 | sl_exact hc3 | sl_exact hc4)
  sl_step
  have hw : k0_pay1 (F := F) (runB.sl.r_1 c arg3 harg3 x1) (runB.sl.r_8 c arg2 harg2 arg3 harg3 x0 x1) = lossOf x0 x1 := by
    delta runB.sl.r_8; delta runB.sl.r runB.sl.r_1 runB.sl.r_2 runB.sl.r_3 runB.sl.r_4 runB.sl.r_5 runB.sl.r_6 runB.sl.r_7 lossOf; simp only [readAt_logits, readAt_targets]
  have hL : runB.sl.HS0_1 c t arg2 harg2 arg3 harg3 hc1 x0 x1
      = [⟨Rect.unit (k0_off1 (grid0.coords t)) S1x512x512.size (k0_off1_inb (grid0.coords t) hc1), lossOf x0 x1⟩] := by
    unfold runB.sl.HS0_1; rw [hw]
  have hh := holds_other arg5 harg5 (k0_off1_inb (grid0.coords t) hc1) (lossOf x0 x1) p (off1_eq t)
    (s' := (t.val + 1) % 2) (by omega) xs hp
  have hv : runB.sl.v18 c t arg2 harg2 arg3 harg3 arg5 harg5 hc1 hc2 x0 x1 xs = p := by
    unfold runB.sl.v18; rw [hL]
    exact readAt_slot arg5 _ (k0_off3_inb (grid0.coords t) hc2) p (off3_eq t h0.out) hh
  have hr : runB.sl.v45 c t arg2 harg2 arg3 harg3 arg5 harg5 hc1 hc2 hc3 x0 x1 xs = firstRows p := by
    unfold runB.sl.v45; rw [hL]
    exact readAt_rows arg5 _ (k0_off2_inb (grid0.coords t) hc2 hc3) p (off2_eq t h0.out) hh
  have hword : runB.sl.r_9 c t arg2 harg2 arg3 harg3 arg5 harg5 hc1 hc2 hc3 x0 x1 xs = word (firstRows p) := by
    unfold runB.sl.r_9; rw [hr]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [hword, hv]
    exact read_block arg4 f2 _ _
  isplitl [HS0]
  · iexists _; isplitr; swap
    · iexists _; isplitr; swap; · iexact HS0
      ipureintro; rfl
    ipureintro
    rw [hL]
    exact holds_write arg5 (harg5.unread xs) (k0_off1_inb (grid0.coords t) hc1) (lossOf x0 x1) (off1_eq t)
  isplitl [HS1]
  · iexists _, _; isplitr; swap; · iexact HS1
    ipureintro; rfl
  iexists _, _; isplitr; swap; · iexact HS2
  ipureintro; rfl

set_option maxHeartbeats 2000000 in
/-- The body at the last point: with the losses `p` of the sample before in the other slot, the point leaves the result of `p`
    in the output block and the scratch as it was. -/
theorem runC (c : Dev nD) (t : Fin cfg0.N) (arg2 : Memref sig .tc .vmem S1x19x512x512 .f32) (harg2 : arg2.IsWhole)
    (arg3 : Memref sig .tc .vmem S1x512x512 .i32) (harg3 : arg3.IsWhole) (arg4 : Memref sig .tc .vmem S1x1x128 .f32) (harg4 : arg4.IsWhole)
    (arg5 : Memref sig .tc .vmem S2x512x512 .bf16) (harg5 : arg5.IsWhole) (arg6 : Memref sig .tc .smem S1 .i32) (harg6 : arg6.IsWhole)
    (arg7 : Memref sig .tc .smem S2 .f32) (harg7 : arg7.IsWhole)
    (hc1 : ¬k0_cond1 (grid0.coords t) = 1#1) (hc2 : k0_cond2 (grid0.coords t) = 1#1) (hc3 : k0_cond3 (grid0.coords t) = 1#1)
    (hc4 : k0_cond4 (grid0.coords t) = 1#1)
    [h0 : Fact (1 ≤ t.val)] (x0 : Vec F S1x19x512x512 .f32) (x1 : Vec F S1x512x512 .i32) (xs : Vec F S2x512x512 .bf16)
    (p : Vec F S1x512x512 .bf16) (hp : Holds xs ((t.val + 1) % 2) p) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare (result p)
            ∗ owns (c : Thread nD τ) arg5 fullShare xs
            ∗ (∃ d, owns (c : Thread nD τ) arg6 fullShare d) ∗ (∃ d, owns (c : Thread nD τ) arg7 fullShare d)) -∗ K ⟨⟩))
      ⊢ wp frame (wpE (defs₀ (F := F)) Variants.none c none) E
          (cc0__body (grid0.coords t) arg2 harg2 arg3 harg3 arg4 harg4 arg5 harg5 arg6 harg6 arg7 harg7) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%d2, %f2, -, H2⟩, ⟨%fs0, %hfs0, HS0⟩, ⟨%ds1, %fs1, -, HS1⟩, ⟨%ds2, %fs2, -, HS2⟩, Hk⟩
  obtain rfl := harg2.eq_unread hf0; obtain rfl := harg3.eq_unread hf1; obtain rfl := harg5.eq_unread hfs0
  sl_exec (disch := first | sl_exact hc1 | sl_exact hc2 | sl_exact hc3 | sl_exact hc4)
  sl_step
  have hh : Holds (arg5.view.read (Elt F) (harg5.unread xs)) ((t.val + 1) % 2) p := by rw [harg5.read_unread]; exact hp
  have hv : runC.sl.v18 c t arg5 harg5 hc2 xs = p := by
    unfold runC.sl.v18
    exact readAt_slot arg5 _ (k0_off3_inb (grid0.coords t) hc2) p (off3_eq t h0.out) hh
  have hr : runC.sl.v45 c t arg5 harg5 hc2 hc3 xs = firstRows p := by
    unfold runC.sl.v45
    exact readAt_rows arg5 _ (k0_off2_inb (grid0.coords t) hc2 hc3) p (off2_eq t h0.out) hh
  have hword : runC.sl.r c t arg5 harg5 hc2 hc3 xs = word (firstRows p) := by
    unfold runC.sl.r; rw [hr]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [hword, hv]
    exact read_block arg4 f2 _ _
  isplitl [HS0]
  · iexists _; isplitr; · ipureintro; exact harg5.read_unread _
    iexact HS0
  isplitl [HS1]
  · iexists _, _; isplitr; swap; · iexact HS1
    ipureintro; rfl
  iexists _, _; isplitr; swap; · iexact HS2
  ipureintro; rfl

end Cert.KernelIdeal.Hand

end
-- ==== Proof.Ideal.Frame.lean ====
/- The launch of the kernel: what the buffers hold between the grid points, and the run of the whole program. -/
module

public import proofs.«01_k».proof.Proof.Ideal.Run

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The losses the body computes at point `t` from the blocks of logits and targets fetched for it. -/
def lossAt (c : Dev nD) (t : Fin cfg0.N) : Vec F S1x512x512 .bf16 := lossOf (iblk m c 0 t) (iblk m c 1 t)

/-- The point before `t` (the first point for itself). -/
def before (t : Fin cfg0.N) : Fin cfg0.N := ⟨t.val - 1, Nat.lt_of_le_of_lt (Nat.sub_le _ _) t.isLt⟩

/-- Between two points: after point `n` the slot of `n` holds the losses of sample `n`, if there is a sample `n`; the other
    buffers hold anything. Before the first point everything holds anything. -/
def PhiS (c : Dev nD) : (n : ℕ) → n ≤ cfg0.N → sProp 𝕄
  | 0, _ => Pipeline.ΦA spec0 c
  | n + 1, hn => iprop(iprop((∃ d, iprop(⌜n < 8 → Holds d (n % 2) (lossAt m c ⟨n, hn⟩)⌝ ∗ owns (c : Thread nD τ) scLoss fullShare d))
      ∗ (∃ d, owns (c : Thread nD τ) scWord fullShare d) ∗ (∃ d, owns (c : Thread nD τ) scAcc fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn
      = iprop(iprop((∃ d, iprop(⌜n < 8 → Holds d (n % 2) (lossAt m c ⟨n, hn⟩)⌝ ∗ owns (c : Thread nD τ) scLoss fullShare d))
      ∗ (∃ d, owns (c : Thread nD τ) scWord fullShare d) ∗ (∃ d, owns (c : Thread nD τ) scAcc fullShare d)) ∗ (∃ r, prngReg c r)) := rfl

theorem PhiS_pos (c : Dev nD) (t : Fin cfg0.N) (hz : 1 ≤ t.val) :
    PhiS m c t.val (Nat.le_of_lt t.isLt)
      = iprop(iprop((∃ d, iprop(⌜t.val - 1 < 8 → Holds d ((t.val - 1) % 2) (lossAt m c (before t))⌝
          ∗ owns (c : Thread nD τ) scLoss fullShare d))
      ∗ (∃ d, owns (c : Thread nD τ) scWord fullShare d) ∗ (∃ d, owns (c : Thread nD τ) scAcc fullShare d)) ∗ (∃ r, prngReg c r)) := by
  obtain ⟨n, hn⟩ := t
  cases n with
  | zero => exact absurd hz (by simp)
  | succ n => rfl

/-- What the launch tracks: the arrays as the region finds them; after point `t` each input's block in place and, in the output
    block, the result of the sample before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result (lossAt m c (before t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
/-- After a point the output block holds the result of the sample before. -/
theorem after_2 (c : Dev nD) (t : Fin cfg0.N) : (dats m 0 c).after 2 t = result (lossAt m c (before t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) (h : 1 ≤ t.val) :
    (dats m 0 c).leavesExact 2 t = owns (c : Thread nD τ) (ms2 t) fullShare (result (lossAt m c (before t))) := by
  unfold Dat.leavesExact; rw [live_pos t h, after_2]

set_option maxHeartbeats 1600000 in
/-- The body at the first point. -/
theorem body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ, leaves_0, leaves_1]
  rw [Dat.leavesExact_idle (dats m 0 c) 2 t (idle_zero t hz) (noFlush_zero t hz)]
  rw [PhiS_castSucc m c t, PhiS_zero m c _ _ hz, PhiA_eq]
  iintro ⟨⟨⟨HS0, HS1, HS2⟩, Hg⟩, Ho, ⟨%d0, H0⟩, ⟨%d1, H1⟩, ⟨%d2, H2⟩⟩
  iapply (runA c t _ _ _ _ _ _ _ _ _ _ _ _ ((cond1_iff t).mpr (by omega)) (fun h => by have := (cond2_iff t).mp h; omega)
    (iblk m c 0 t) (iblk m c 1 t) _ Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, ⟨%e0, %he0, HS0⟩, HS1, HS2⟩
  isplitl [HS0 HS1 HS2 Hg]
  · isplitl [HS0 HS1 HS2]
    · isplitl [HS0]
      · iexists _; isplitr; swap; · iexact HS0
        ipureintro; exact fun _ => he0
      isplitl [HS1]; · iexact HS1
      iexact HS2
    iexact Hg
  isplitl [Ho]; · iexact Ho
  isplitl [H0]; · iexact H0
  isplitl [H1]; · iexact H1
  iexists _; iexact H2

set_option maxHeartbeats 1600000 in
/-- The body at a point between the first and the last. -/
theorem body_mid (c : Dev nD) (t : Fin cfg0.N) (hz : 1 ≤ t.val) (h8 : t.val < 8) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ, leaves_0, leaves_1, leaves_2 m c t hz]
  rw [PhiS_castSucc m c t, PhiS_pos m c t hz]
  iintro ⟨⟨⟨⟨%xs, %hxs, HS0⟩, HS1, HS2⟩, Hg⟩, Ho, ⟨%d0, H0⟩, ⟨%d1, H1⟩, ⟨%d2, H2⟩⟩
  have hp : Holds xs ((t.val + 1) % 2) (lossAt m c (before t)) := by
    rw [show (t.val + 1) % 2 = (t.val - 1) % 2 by omega]; exact hxs (by omega)
  iapply (runB c t _ _ _ _ _ _ _ _ _ _ _ _ ((cond1_iff t).mpr h8) ((cond2_iff t).mpr hz) (cond3_all t) (cond4_all t) (h0 := ⟨hz⟩)
    (iblk m c 0 t) (iblk m c 1 t) xs (lossAt m c (before t)) hp Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, ⟨%e0, %he0, HS0⟩, HS1, HS2⟩
  isplitl [HS0 HS1 HS2 Hg]
  · isplitl [HS0 HS1 HS2]
    · isplitl [HS0]
      · iexists _; isplitr; swap; · iexact HS0
        ipureintro; exact fun _ => he0
      isplitl [HS1]; · iexact HS1
      iexact HS2
    iexact Hg
  isplitl [Ho]; · iexact Ho
  isplitl [H0]; · iexact H0
  isplitl [H1]; · iexact H1
  iexact H2

set_option maxHeartbeats 1600000 in
/-- The body at the last point. -/
theorem body_last (c : Dev nD) (t : Fin cfg0.N) (h8 : t.val = 8) :
    bodyPre m c t ⊢ wp frame (wpE (defs₀ (F := F)) Variants.none c none) Set.univ (bodyAt0 t) (fun _ => bodyPost m c t) := by
  have hz : 1 ≤ t.val := by omega
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ, leaves_0, leaves_1, leaves_2 m c t hz]
  rw [PhiS_castSucc m c t, PhiS_pos m c t hz]
  iintro ⟨⟨⟨⟨%xs, %hxs, HS0⟩, HS1, HS2⟩, Hg⟩, Ho, ⟨%d0, H0⟩, ⟨%d1, H1⟩, ⟨%d2, H2⟩⟩
  have hp : Holds xs ((t.val + 1) % 2) (lossAt m c (before t)) := by
    rw [show (t.val + 1) % 2 = (t.val - 1) % 2 by omega]; exact hxs (by omega)
  iapply (runC c t _ _ _ _ _ _ _ _ _ _ _ _ (fun h => by have := (cond1_iff t).mp h; omega) ((cond2_iff t).mpr hz) (cond3_all t)
    (cond4_all t) (h0 := ⟨hz⟩) (iblk m c 0 t) (iblk m c 1 t) xs (lossAt m c (before t)) hp Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, HS0, HS1, HS2⟩
  isplitl [HS0 HS1 HS2 Hg]
  · isplitl [HS0 HS1 HS2]
    · isplitl [HS0]
      · iexists _; isplitr; swap; · iexact HS0
        ipureintro; exact fun h => absurd h (by omega)
      isplitl [HS1]; · iexact HS1
      iexact HS2
    iexact Hg
  isplitl [Ho]; · iexact Ho
  isplitl [H0]; · iexact H0
  isplitl [H1]; · iexact H1
  iexact H2

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 9 := lt_of_lt_of_eq t.isLt (show cfg0.N = 9 from N_0)
  by_cases hz : t.val = 0
  · exact body_first m c t hz
  · by_cases h8 : t.val < 8
    · exact body_mid m c t (by omega) h8
    · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (8 + 1) (le_of_eq N_0.symm) from rfl, PhiS_succ m c 8 (by rw [show cfg0.N = 9 from N_0]; omega),
    PhiA_eq]
  iintro ⟨⟨⟨%d, %hd, HS0⟩, HS1, HS2⟩, Hg⟩
  isplitl [HS0 HS1 HS2]
  · isplitl [HS0]
    · iexists _; iexact HS0
    isplitl [HS1]
    · iexact HS1
    iexact HS2
  iexact Hg

set_option backward.isDefEq.respectTransparency.types false in
set_option maxHeartbeats 800000 in
/-- Every run of the program ends, with every array of the launch at what the launch's data say, every other buffer as the lines
    after the launch leave it, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Ideal.Array.lean ====
/- The array of the samples' results when the launch ends, and the value the program returns from it. -/
module

public import proofs.«01_k».proof.Proof.Ideal.Frame
public import Idealize.ShloMosaic.Lib.Pipeline.ValueKit.Geometry
public import Idealize.ShloMosaic.Lib.StableHlo.Run
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-- The point that computes the losses of sample `b`. -/
def point (b : Fin 8) : Fin cfg0.N := ⟨b.val, lt_of_lt_of_eq (Nat.lt_succ_of_lt b.isLt) (show 9 = cfg0.N from N_0.symm)⟩

/-- What the launch leaves: for each sample its result, along the lanes. -/
def results (c : Dev nD) : Vec F S8x1x128 .f32 := fun x => result (lossAt m c (point (x 0))) (ValueIdx.ix3 0 0 (x 2))

/-- A point that writes the output block back is not the first. -/
theorem flush_pos : ∀ t : Fin cfg0.N, (cfg0.win 2).flush t = true → 1 ≤ t.val := by decide +kernel
/-- The output block of a point is that of the sample before. -/
theorem out_index : ∀ t : Fin cfg0.N, win0_2.index t = ![t.val - 1, 0, 0] :=
  (by decide +kernel : ∀ t : Fin grid0.N, win0_2.index t = ![t.val - 1, 0, 0])

/-- The output array holds the samples' results. -/
theorem out_array (c : Dev nD) : (dats m 0 c).arrAt 2 cfg0.N = results m c := by
  refine (dats m 0 c).arrAt_eq_of_covers 2 _ (by decide +kernel) fun t hf y => ?_
  blk_simp
  rw [after_2]
  have e := out_index t
  have e0 : ((win0_2.blk t).view.emb y 0).val = t.val - 1 := by
    blk_simp [e]
  have e2 : ((win0_2.blk t).view.emb y 2).val = (y 2).val := by
    blk_simp [e]
  have hb : before t = point ((win0_2.blk t).view.emb y 0) := Fin.ext e0.symm
  show result (lossAt m c (before t)) y = result (lossAt m c (point ((win0_2.blk t).view.emb y 0))) (ValueIdx.ix3 0 0 ((win0_2.blk t).view.emb y 2))
  rw [hb]
  rfl

/-- The program's result, from the array: the first lane of each sample, summed and divided by eight. -/
def total (A : Vec F S8x1x128 .f32) : FVec F S_ .f32 :=
  Host.divf (Host.reduceAdd (shapeCast S8 (extractStridedSlice S8x1x1 ![0, 0, 0] A slices_S8x1x128_S8x1x1_0_0_0) shapeCasts_S8x1x1_S8)
    (constant S_ .f32 0x00000000#32) reducesTo_S8_S_d0 h_S_) (constant S_ .f32 0x41000000#32)

/-- What the lines after the launch leave in the result. -/
theorem tail (c : Dev nD) : Pipeline.afterTail₀ cfgs (dats m) 0 (V0 m) [hostOps1] c main_v0 = total (results m c) := by
  rw [← out_array m c]
  have h := Pipeline.withArrays_arr spec0 launch0.win.arr_inj c (V0 m c) (fun w => (dats m 0 c).arrAt w (cfgs 0).N) 2
  unfold Pipeline.afterTail₀ total
  rw [← h]
  simp only [hostOps1, List.flatten_cons, List.flatten_nil, List.append_nil, StableHlo.TRef.binary, StableHlo.TRef.nullary, StableHlo.TRef.reshape,
    StableHlo.TRef.unary, StableHlo.TRef.toBuf, StableHlo.TRef.ofBuf, cast_eq]
  after_results_simp <;> rfl

/-- Every run ends with the result at that total and the arguments unchanged. -/
theorem run_value : θ_run defs (onTc (τ := τ) (main (F := F))) ⟨m, fun _ => 0, ρ⟩ (fun r => ∀ c : Dev nD,
      r.2.mem ((c.tc : Thread nD τ).loc main_v0) = total (results m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.rest_eq c main_v0 (by decide)).trans (tail m c), h.2 c⟩)
    (θ_run_and (run_main m ρ) (frame_of m ρ (dats m) (A_eq m) (run_main m ρ)))

end Cert.KernelIdeal.Hand

end
-- ==== Proof.Math.Entropy.lean ====
/- The cross entropy of one voxel over the reals, and the few facts about extended reals it needs. -/
module

public import Idealize.ShloMosaic.PureOps.Ideal
public import Mathlib.Analysis.SpecialFunctions.Log.Basic
public import Mathlib.Tactic.Linarith

@[expose] public section

noncomputable section

namespace Cert.Entropy

open Idealize.ShloMosaic

/-- The word of a voxel that is left out: `-1`. -/
abbrev ignored : BitVec 32 := 4294967295#32

/-- A target is left out or names one of the 19 classes. -/
def Target (t : BitVec 32) : Prop := t = ignored ∨ t.toNat < 19

/-- The class a target names. -/
def cls (t : BitVec 32) : Fin 19 := ⟨t.toNat % 19, Nat.mod_lt _ (by decide)⟩

/-- The logarithm of the sum of the exponentials. -/
def lse (x : Fin 19 → ℝ) : ℝ := Real.log (∑ c, Real.exp (x c))

/-- The cross entropy of one voxel: nothing for one that is left out. -/
def entropy (x : Fin 19 → ℝ) (t : BitVec 32) : ℝ := if t = ignored then 0 else lse x - x (cls t)

theorem sum_exp_pos (x : Fin 19 → ℝ) : 0 < ∑ c, Real.exp (x c) :=
  Finset.sum_pos (fun c _ => Real.exp_pos _) Finset.univ_nonempty

/-- No class's logit is above the logarithm of the sum, -/
theorem le_lse (x : Fin 19 → ℝ) (c : Fin 19) : x c ≤ lse x := by
  rw [lse, Real.le_log_iff_exp_le (sum_exp_pos x)]
  exact Finset.single_le_sum (f := fun c => Real.exp (x c)) (fun c _ => (Real.exp_pos _).le) (Finset.mem_univ c)

/-- so a loss is never negative. -/
theorem entropy_nonneg (x : Fin 19 → ℝ) (t : BitVec 32) : 0 ≤ entropy x t := by
  unfold entropy
  split
  · exact le_rfl
  · linarith [le_lse x (cls t)]

/-- Taking the same number from every logit takes it from the logarithm of the sum. -/
theorem lse_sub (x : Fin 19 → ℝ) (m : ℝ) : lse (fun c => x c - m) = lse x - m := by
  unfold lse
  simp only [Real.exp_sub]
  rw [← Finset.sum_div, Real.log_div (sum_exp_pos x).ne' (Real.exp_pos m).ne', Real.log_exp]

/-- A sum of real numbers is real. -/
theorem coe_sum {ι : Type*} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- The larger of two real numbers is real. -/
theorem coe_max (a b : ℝ) : ((max a b : ℝ) : EReal) = max (a : EReal) (b : EReal) := by
  exact EReal.coe_strictMono.monotone.map_max

/-- The logarithm of a sum of exponentials of real numbers. -/
theorem log_sum_exp (x : Fin 19 → ℝ) : Ideal.log (∑ c, Ideal.exp (x c : EReal)) = ((lse x : ℝ) : EReal) := by
  simp only [Ideal.exp_coe]
  rw [← coe_sum, Ideal.log_coe, if_neg (not_le.mpr (sum_exp_pos x))]
  rfl

end Cert.Entropy

end
-- ==== Proof.Ideal.Loss.lean ====
/- The losses the kernel computes of one sample, over the extended reals: the cross entropies of its voxels. -/
module

public import proofs.«01_k».proof.Proof.Ideal.Run
public import proofs.«01_k».proof.Proof.Math.Entropy
public import Idealize.ShloMosaic.Lib.ValueLayout
public import Idealize.ShloMosaic.Lib.ValueIdx
public import Idealize.ShloMosaic.PureOps.Ideal.Laws

@[expose] public section

set_option maxRecDepth 16384

noncomputable section

namespace Cert.KernelIdeal.Hand

open Idealize.ShloMosaic Idealize.ShloMosaic.ValueIdx
open Cert.KernelIdeal.Gen Cert.Entropy

/-- One class's logits, cut out of all of them, read at a voxel. -/
theorem class_apply (c : ℕ) (v : FVec Ideal S19x512x512 .f32) (h : S19x512x512.Slices ![c, 0, 0] S1x512x512)
    (h' : S1x512x512.ShapeCasts S512x512) (hc : c < 19) (i j : Fin 512) :
    shapeCast S512x512 (extractStridedSlice S1x512x512 ![c, 0, 0] v h) h' (ix2 i j) = v (ix3 ⟨c, hc⟩ i j) := by
  rw [shapeCast_1ab_ab_apply]
  refine extractStridedSlice_apply _ _ _ _ _ fun a => ?_
  match a with
  | ⟨0, _⟩ => rfl
  | ⟨1, _⟩ => exact (Nat.zero_add _).symm
  | ⟨2, _⟩ => exact (Nat.zero_add _).symm

/-- The kernel's choice among the 19 classes by the five bits of a number below 19 chooses the class of that number. -/
theorem chosen (v : FVec Ideal S19x512x512 .f32) (w : FVec Ideal S512x512 .f32) (b0 b1 b2 b3 b4 : IVec S512x512 1) (i j : Fin 512)
    (k : ℕ) (hk : k < 19) (h0 : b0 (ix2 i j) = BitVec.ofBool (k.testBit 0)) (h1 : b1 (ix2 i j) = BitVec.ofBool (k.testBit 1))
    (h2 : b2 (ix2 i j) = BitVec.ofBool (k.testBit 2)) (h3 : b3 (ix2 i j) = BitVec.ofBool (k.testBit 3))
    (h4 : b4 (ix2 i j) = BitVec.ofBool (k.testBit 4)) :
    k0_pay17 v w b0 b1 b2 b3 b4 (ix2 i j) = max (w (ix2 i j) - v (ix3 ⟨k, hk⟩ i j)) 0 := by
  unfold k0_pay17
  simp only [maximumf_apply, subf_apply, select_apply, broadcast_apply, h0, h1, h2, h3, h4]
  rw [class_apply 0 v _ _ (by decide), class_apply 1 v _ _ (by decide), class_apply 2 v _ _ (by decide),
    class_apply 3 v _ _ (by decide), class_apply 4 v _ _ (by decide), class_apply 5 v _ _ (by decide),
    class_apply 6 v _ _ (by decide), class_apply 7 v _ _ (by decide), class_apply 8 v _ _ (by decide),
    class_apply 9 v _ _ (by decide), class_apply 10 v _ _ (by decide), class_apply 11 v _ _ (by decide),
    class_apply 12 v _ _ (by decide), class_apply 13 v _ _ (by decide), class_apply 14 v _ _ (by decide),
    class_apply 15 v _ _ (by decide), class_apply 16 v _ _ (by decide), class_apply 17 v _ _ (by decide),
    class_apply 18 v _ _ (by decide)]
  have hz : (Scalar.ofBits .f32 0#32 : Ideal .f32) = (0 : EReal) := Ideal.ofBits_zero_f32
  rw [hz]
  interval_cases k <;> rfl

/-- The five bits the kernel tests of a target below 19. -/
theorem bits_apply (x1 : Vec Ideal S1x512x512 .i32) (i j : Fin 512) (k : ℕ) (hk : k < 19)
    (h : x1 (ix3 0 i j) = BitVec.ofNat 32 k) :
    k0_pay12 (F := Ideal) x1 (ix2 i j) = BitVec.ofBool (k.testBit 0) ∧ k0_pay13 (F := Ideal) x1 (ix2 i j) = BitVec.ofBool (k.testBit 1)
      ∧ k0_pay14 (F := Ideal) x1 (ix2 i j) = BitVec.ofBool (k.testBit 2) ∧ k0_pay15 (F := Ideal) x1 (ix2 i j) = BitVec.ofBool (k.testBit 3)
      ∧ k0_pay16 (F := Ideal) x1 (ix2 i j) = BitVec.ofBool (k.testBit 4) := by
  have hv : k0_pay10 (F := Ideal) x1 (ix2 i j) = BitVec.ofNat 32 k := (shapeCast_1ab_ab_apply x1 _ i j).trans h
  have hb (l : BitVec 32) : cmpi .eq (andi (shrui (k0_pay10 (F := Ideal) x1) (broadcast S512x512 l)) (broadcast S512x512 1#32))
      (broadcast S512x512 1#32) (ix2 i j) = IntOp.cmpi .eq (IntOp.andi (IntOp.shrui .vector (BitVec.ofNat 32 k) l) 1#32) 1#32 := by
    rw [← hv]; rfl
  refine ⟨(hb 0#32).trans ?_, (hb 1#32).trans ?_, (hb 2#32).trans ?_, (hb 3#32).trans ?_, (hb 4#32).trans ?_⟩ <;>
  · clear hb hv h
    revert k
    decide

/-- The logarithm of the sum of a voxel's exponentials, as the kernel takes it. -/
theorem lse_apply (x0 : Vec Ideal S1x19x512x512 .f32) (x : Fin 19 → ℝ) (i j : Fin 512)
    (h : ∀ c, x0 (ix4 0 c i j) = ((x c : ℝ) : EReal)) : k0_pay11 x0 (ix2 i j) = ((lse x : ℝ) : EReal) := by
  refine Eq.trans ?_ (log_sum_exp x)
  unfold k0_pay11
  show Ideal.log _ = _
  congr 1
  refine (Ideal.multiReduction_add_single _ _ _ _ _ _).trans ?_
  refine Finset.sum_congr rfl fun c _ => ?_
  have hl : (reduces_S19x512x512_S512x512 : S19x512x512.Reduces [0] S512x512).lift (ix2 i j) c = ix3 c i j := by
    funext a
    match a with
    | ⟨0, _⟩ => rfl
    | ⟨1, _⟩ => rfl
    | ⟨2, _⟩ => rfl
  rw [hl]
  show Ideal.exp (k0_pay9 x0 (ix3 c i j)) = _
  rw [show k0_pay9 x0 (ix3 c i j) = x0 (ix4 0 c i j) from shapeCast_1abc_abc_apply x0 _ c i j, h c]

/-- The losses of one sample are the cross entropies of its voxels. -/
theorem lossOf_apply (x0 : Vec Ideal S1x19x512x512 .f32) (x1 : Vec Ideal S1x512x512 .i32) (x : Fin 19 → ℝ) (i j : Fin 512)
    (h : ∀ c, x0 (ix4 0 c i j) = ((x c : ℝ) : EReal)) (ht : Target (x1 (ix3 0 i j))) :
    lossOf x0 x1 (ix3 0 i j) = ((entropy x (x1 (ix3 0 i j)) : ℝ) : EReal) := by
  unfold lossOf k0_pay1
  rw [shapeCast_ab_1ab_apply]
  have hv : k0_pay10 (F := Ideal) x1 (ix2 i j) = x1 (ix3 0 i j) := shapeCast_1ab_ab_apply x1 _ i j
  rw [truncf_apply, select_apply, broadcast_apply]
  show Scalar.select (IntOp.cmpi .eq (k0_pay10 (F := Ideal) x1 (ix2 i j)) ignored) _ _ = _
  rw [hv]
  rcases ht with ht | ht
  · rw [ht]
    simp only [entropy, if_true]
    exact Ideal.ofBits_zero_f32
  · have hk : x1 (ix3 0 i j) = BitVec.ofNat 32 (x1 (ix3 0 i j)).toNat := by simp
    have hne : x1 (ix3 0 i j) ≠ ignored := by
      intro he
      rw [he] at ht
      exact absurd ht (by decide)
    obtain ⟨b0, b1, b2, b3, b4⟩ := bits_apply x1 i j _ ht hk
    rw [chosen _ _ _ _ _ _ _ i j _ ht b0 b1 b2 b3 b4, lse_apply x0 x i j h,
      show k0_pay9 x0 (ix3 ⟨(x1 (ix3 0 i j)).toNat, ht⟩ i j) = _ from shapeCast_1abc_abc_apply x0 _ _ i j, h]
    have hc : IntOp.cmpi .eq (x1 (ix3 0 i j)) ignored = 0#1 := by
      simp only [IntOp.cmpi, beq_eq_false_iff_ne.mpr hne]
      rfl
    rw [hc, select_zero]
    unfold entropy
    rw [if_neg hne, ← EReal.coe_sub, ← EReal.coe_zero, ← coe_max,
      show (⟨(x1 (ix3 0 i j)).toNat, ht⟩ : Fin 19) = cls (x1 (ix3 0 i j)) from Fin.ext (Nat.mod_eq_of_lt ht).symm,
      max_eq_left (by linarith [le_lse x (cls (x1 (ix3 0 i j)))])]

end Cert.KernelIdeal.Hand

end
-- ==== Proof.Math.Search.lean ====
/- The bit-by-bit search for the last index at which a falling condition holds. -/
module

public import Idealize.ShloMosaic.Lib.Exec.Context
public import Mathlib.Tactic.IntervalCases
public import Mathlib.Data.List.FinRange

@[expose] public section

namespace Cert.Search

open Idealize.ShloMosaic

/-- What every trip keeps holds after all of them. -/
theorem foldl_keeps {σ : Type} (Inv : ℕ → σ → Prop) (n : ℕ) (g : Fin n → σ → σ) (init : σ) (h0 : Inv 0 init)
    (hs : ∀ (k : Fin n) acc, Inv k.val acc → Inv (k.val + 1) (g k acc)) :
    Inv n ((List.finRange n).foldl (fun acc k => g k acc) init) := by
  induction n with
  | zero => simpa using h0
  | succ n ih =>
    rw [List.finRange_succ_last, List.foldl_append, List.foldl_map]
    exact hs (Fin.last n) _ (ih (fun k => g k.castSucc) fun k acc h => hs k.castSucc acc h)

/-- The number of words searched: the words of the nonnegative finite values. -/
abbrev top : ℕ := 0x7F80

/-- A candidate is one of the words searched or the next. -/
theorem cand_le (i a : ℕ) (hi : i < 15) (ha : a < top) (hm : a % 2 ^ (15 - i) = 0) : a + 2 ^ (14 - i) ≤ top := by
  unfold top at *
  interval_cases i <;> simp only [Nat.reduceSub, Nat.reducePow] at hm ⊢ <;> omega

/-- Adding the bit of a trip keeps the bits below it zero. -/
theorem cand_mod (i a : ℕ) (hi : i < 15) (hm : a % 2 ^ (15 - i) = 0) :
    (a + 2 ^ (14 - i)) % 2 ^ (15 - (i + 1)) = 0 ∧ a % 2 ^ (15 - (i + 1)) = 0 ∧ a + 2 ^ (15 - i) = a + 2 ^ (14 - i) + 2 ^ (15 - (i + 1))
      ∧ 2 ^ (14 - i) = 2 ^ (15 - (i + 1)) := by
  have h : 2 ^ (15 - i) = 2 ^ (14 - i) + 2 ^ (14 - i) := by
    rw [show 15 - i = (14 - i) + 1 by omega, Nat.pow_succ]; omega
  have hp : 0 < 2 ^ (14 - i) := Nat.pos_of_ne_zero (by simp)
  have hd : 2 ^ (14 - i) ∣ a := (Dvd.intro_left 2 (by omega)).trans (Nat.dvd_of_mod_eq_zero hm)
  rw [show 15 - (i + 1) = 14 - i by omega, h]
  exact ⟨Nat.mod_eq_zero_of_dvd (Nat.dvd_add hd (Nat.dvd_refl _)), Nat.mod_eq_zero_of_dvd hd, (Nat.add_assoc _ _ _).symm, rfl⟩

/-- What a search has established after `i` trips. -/
structure Found (Q : ℕ → Prop) (i : ℕ) (a : ℕ) : Prop where
  mod : a % 2 ^ (15 - i) = 0
  lt : a < top
  holds : Q a
  above : ∀ c, a + 2 ^ (15 - i) ≤ c → c ≤ top → ¬ Q c

/-- The search ends at the last word at which the condition holds. -/
theorem search (Q : ℕ → Prop) (h0 : Q 0) (htop : ¬ Q top) (hanti : ∀ c d, c ≤ d → d ≤ top → Q d → Q c)
    (step : Fin 15 → BitVec 32 → BitVec 32)
    (hyes : ∀ (k : Fin 15) (acc : BitVec 32), acc.toNat + 2 ^ (14 - k.val) ≤ top → Q (acc.toNat + 2 ^ (14 - k.val)) →
      (step k acc).toNat = acc.toNat + 2 ^ (14 - k.val))
    (hno : ∀ (k : Fin 15) (acc : BitVec 32), acc.toNat + 2 ^ (14 - k.val) ≤ top → ¬ Q (acc.toNat + 2 ^ (14 - k.val)) →
      step k acc = acc) :
    (Scf.fold step 0#32).toNat < top ∧ Q (Scf.fold step 0#32).toNat ∧
      ∀ c, (Scf.fold step 0#32).toNat < c → c ≤ top → ¬ Q c := by
  have h : Found Q 15 (Scf.fold step 0#32).toNat := by
    rw [Scf.fold_eq]
    refine foldl_keeps (fun i acc => Found Q i acc.toNat) 15 step 0#32 ?_ ?_
    · refine ⟨rfl, by decide, h0, fun c hc hc' => ?_⟩
      simp only [top, BitVec.toNat_ofNat] at hc hc'
      omega
    · intro k acc hk
      obtain ⟨m1, m2, m3, m4⟩ := cand_mod k.val acc.toNat k.isLt hk.mod
      have hle := cand_le k.val acc.toNat k.isLt hk.lt hk.mod
      by_cases hq : Q (acc.toNat + 2 ^ (14 - k.val))
      · rw [show (step k acc).toNat = _ from hyes k acc hle hq]
        refine ⟨m1, lt_of_le_of_ne hle fun he => htop (he ▸ hq), hq, fun c hc hc' => hk.above c (m3 ▸ hc) hc'⟩
      · rw [show step k acc = _ from hno k acc hle hq]
        exact ⟨m2, hk.lt, hk.holds, fun c hc hc' hQ => hq (hanti _ c (m4 ▸ hc) hc' hQ)⟩
  exact ⟨h.lt, h.holds, fun c hc => h.above c hc⟩

end Cert.Search
-- ==== Proof.Math.Words.lean ====
/- The values of the words the search tries: the numbers of 16 significant bits of the single format. -/
module

public import proofs.«01_k».proof.Proof.Math.Search
public import Idealize.ShloMosaic.PureOps.Ideal
public import Mathlib.Tactic.Linarith
public import Mathlib.Tactic.Ring
public import Mathlib.Tactic.NormNum
public import Mathlib.Tactic.Positivity
public import Mathlib.Order.Monotone.Basic

@[expose] public section

noncomputable section

namespace Cert.Words

open Idealize.ShloMosaic Cert.Search

/-- The value of word `c`, as a real number. -/
def real (c : ℕ) : ℝ :=
  if c / 128 = 0 then ((c % 128 * 65536 : ℕ) : ℝ) * (2 : ℝ) ^ (-149 : ℤ)
  else ((2 ^ 23 + c % 128 * 65536 : ℕ) : ℝ) * (2 : ℝ) ^ ((c / 128 : ℕ) - 150 : ℤ)

/-- The value of word `c`: the number whose high half is `c`. -/
def val (c : ℕ) : EReal := Ideal.ofBits .f32 (BitVec.ofNat 32 c <<< 16)

theorem real_zero : real 0 = 0 := by simp [real]

/-- A later word has a larger value. -/
theorem real_strictMono : StrictMono real := by
  refine strictMono_nat_of_lt_succ fun c => ?_
  unfold real
  have hp : (0 : ℝ) < (2 : ℝ) ^ (-149 : ℤ) := by positivity
  have hq : (0 : ℝ) < (2 : ℝ) ^ ((c / 128 : ℕ) - 150 : ℤ) := by positivity
  by_cases h : c % 128 = 127
  · have h1 : (c + 1) % 128 = 0 := by omega
    have h2 : (c + 1) / 128 = c / 128 + 1 := by omega
    rw [if_neg (by omega : ¬ (c + 1) / 128 = 0), h, h1, h2]
    by_cases h0 : c / 128 = 0
    · rw [if_pos h0, h0]
      norm_num
    · rw [if_neg h0]
      have : ((2 : ℝ) ^ (((c / 128 + 1 : ℕ) : ℤ) - 150 : ℤ)) = 2 * (2 : ℝ) ^ ((c / 128 : ℕ) - 150 : ℤ) := by
        rw [show (((c / 128 + 1 : ℕ) : ℤ) - 150 : ℤ) = ((c / 128 : ℕ) - 150 : ℤ) + 1 by push_cast; ring, zpow_add₀ (by norm_num), zpow_one, mul_comm]
      rw [this]
      generalize (2 : ℝ) ^ ((c / 128 : ℕ) - 150 : ℤ) = p at hq
      norm_num
      linarith
  · have h1 : (c + 1) % 128 = c % 128 + 1 := by omega
    have h2 : (c + 1) / 128 = c / 128 := by omega
    rw [h1, h2]
    split
    · exact mul_lt_mul_of_pos_right (by exact_mod_cast (by omega : c % 128 * 65536 < (c % 128 + 1) * 65536)) hp
    · exact mul_lt_mul_of_pos_right (by exact_mod_cast (by omega : 2 ^ 23 + c % 128 * 65536 < 2 ^ 23 + (c % 128 + 1) * 65536)) hq

theorem real_nonneg (c : ℕ) : 0 ≤ real c := real_zero ▸ real_strictMono.monotone (Nat.zero_le c)

/-- The three fields of a word's value. -/
theorem fields (c : ℕ) (h : c ≤ top) :
    (BitVec.ofNat 32 c <<< 16).extractLsb' (8 + 23) 1 = 0#1
      ∧ ((BitVec.ofNat 32 c <<< 16).extractLsb' 23 8).toNat = c / 128
      ∧ ((BitVec.ofNat 32 c <<< 16).extractLsb' 0 23).toNat = c % 128 * 65536 := by
  unfold top at h
  have hs : (BitVec.ofNat 32 c <<< 16).toNat = c * 65536 := by
    rw [BitVec.toNat_shiftLeft, BitVec.toNat_ofNat, Nat.shiftLeft_eq]
    omega
  refine ⟨BitVec.eq_of_toNat_eq ?_, ?_, ?_⟩
  all_goals
    rw [BitVec.extractLsb'_toNat, hs, Nat.shiftRight_eq_div_pow]
    norm_num
    omega

/-- Below the last word the values are real, -/
theorem val_eq (c : ℕ) (h : c < top) : val c = ((real c : ℝ) : EReal) := by
  obtain ⟨f1, f2, f3⟩ := fields c h.le
  unfold top at h
  unfold val real
  simp only [Ideal.ofBits, Ideal.ieee, f1, f2, f3]
  rw [if_neg (by norm_num; omega)]
  split
  · norm_num
  · norm_num
    rw [show (c : ℤ) / 128 - 127 - 23 = (c : ℤ) / 128 - 150 by ring]

/-- and the last word's is infinite. -/
theorem val_top : val top = ⊤ := by
  obtain ⟨f1, f2, f3⟩ := fields top le_rfl
  unfold val
  simp only [Ideal.ofBits, Ideal.ieee, f1, f2, f3]
  norm_num

end Cert.Words

end
-- ==== Proof.Math.TopK.lean ====
/- The sum of the `k` largest of `n` real numbers, by a threshold. -/
module

public import Idealize.ShloMosaic.Lib.SortFacts
public import Mathlib.Data.Real.Basic
public import Mathlib.Tactic.Linarith
public import Mathlib.Tactic.Ring
public import Mathlib.Algebra.BigOperators.Fin
public import Mathlib.Algebra.Order.BigOperators.Group.Finset

@[expose] public section

noncomputable section

namespace Cert.TopK

open Finset Idealize.ShloMosaic

variable {n : ℕ} (x : Fin n → ℝ)

/-- The sum a threshold `t` gives: `k` times `t` and what is above it. -/
def excess (k : ℕ) (t : ℝ) : ℝ := k * t + ∑ i, max (x i - t) 0

/-- `σ` lists the positions of `x` from the largest entry down. -/
structure Sorts (σ : Fin n → Fin n) : Prop where
  inj : Function.Injective σ
  anti : ∀ i j, i ≤ j → x (σ j) ≤ x (σ i)

variable {x} {σ : Fin n → Fin n}

/-- The `k`-th largest entry is at least `v` exactly when at least `k` entries are. -/
theorem le_kth_iff (h : Sorts x σ) (k : ℕ) (hk : k < n) (v : ℝ) :
    v ≤ x (σ ⟨k, hk⟩) ↔ k + 1 ≤ (univ.filter fun i => v ≤ x i).card := by
  constructor
  · intro hv
    have hsub : ((univ.filter fun i : Fin n => i ≤ ⟨k, hk⟩).image σ) ⊆ univ.filter fun i => v ≤ x i := by
      intro j hj
      obtain ⟨i, hi, rfl⟩ := mem_image.mp hj
      exact mem_filter.mpr ⟨mem_univ _, hv.trans (h.anti _ _ (mem_filter.mp hi).2)⟩
    have hc := card_le_card hsub
    rw [card_image_of_injective _ h.inj] at hc
    have : (univ.filter fun i : Fin n => i ≤ ⟨k, hk⟩).card = k + 1 := by
      rw [show (univ.filter fun i : Fin n => i ≤ ⟨k, hk⟩) = Finset.Iic ⟨k, hk⟩ from by ext; simp, Fin.card_Iic]
    omega
  · intro hc
    by_contra hv
    have hv := not_le.mp hv
    have hsub : (univ.filter fun i => v ≤ x i) ⊆ ((univ.filter fun i : Fin n => i < ⟨k, hk⟩).image σ) := by
      intro j hj
      obtain ⟨i, rfl⟩ := (Finite.injective_iff_surjective.mp h.inj) j
      refine mem_image.mpr ⟨i, mem_filter.mpr ⟨mem_univ _, ?_⟩, rfl⟩
      by_contra hi
      exact absurd ((mem_filter.mp hj).2.trans (h.anti _ _ (not_lt.mp hi))) (not_le.mpr hv)
    have hc' := card_le_card hsub
    rw [card_image_of_injective _ h.inj] at hc'
    have : (univ.filter fun i : Fin n => i < ⟨k, hk⟩).card = k := by
      rw [show (univ.filter fun i : Fin n => i < ⟨k, hk⟩) = Finset.Iio ⟨k, hk⟩ from by ext; simp, Fin.card_Iio]
    omega

/-- The entries above `t` are fewer than `k + 1` exactly when the entry after the `k` largest is not above `t`. -/
theorem kth_le_of_card (h : Sorts x σ) (k : ℕ) (t : ℝ) (hc : (univ.filter fun i => t < x i).card ≤ k) (i : Fin n) (hi : k ≤ i.val) :
    x (σ i) ≤ t := by
  by_contra hv
  have hv := not_le.mp hv
  have hsub : ((univ.filter fun j : Fin n => j ≤ i).image σ) ⊆ univ.filter fun j => t < x j := by
    intro j hj
    obtain ⟨l, hl, rfl⟩ := mem_image.mp hj
    exact mem_filter.mpr ⟨mem_univ _, hv.trans_le (h.anti _ _ (mem_filter.mp hl).2)⟩
  have hc' := card_le_card hsub
  rw [card_image_of_injective _ h.inj,
    show (univ.filter fun j : Fin n => j ≤ i) = Finset.Iic i from by ext; simp, Fin.card_Iic] at hc'
  omega

/-- The sum of the `k` largest entries. -/
def topSum (x : Fin n → ℝ) (σ : Fin n → Fin n) (k : ℕ) (hk : k ≤ n) : ℝ := ∑ i : Fin k, x (σ (i.castLE hk))

/-- A sum over the positions splits at `k`. -/
theorem sum_split (f : Fin n → ℝ) (k : ℕ) (hk : k ≤ n) :
    ∑ i, f i = ∑ i : Fin k, f (i.castLE hk) + ∑ i ∈ univ.filter (fun i : Fin n => k ≤ i.val), f i := by
  rw [← Finset.sum_filter_add_sum_filter_not univ (fun i : Fin n => i.val < k) f]
  congr 1
  · symm
    refine Finset.sum_bij (fun i _ => i.castLE hk) (fun i _ => ?_) (fun i _ j _ hij => ?_) (fun j hj => ?_) (fun i _ => rfl)
    · exact mem_filter.mpr ⟨mem_univ _, i.isLt⟩
    · exact Fin.ext (by have := congrArg Fin.val hij; simpa using this)
    · exact ⟨⟨j.val, (mem_filter.mp hj).2⟩, mem_univ _, Fin.ext rfl⟩
  · exact Finset.sum_congr (by ext; simp) fun _ _ => rfl

/-- The excess over a threshold, summed in the sorted order. -/
theorem excess_sorted (h : Sorts x σ) (k : ℕ) (t : ℝ) : excess x k t = k * t + ∑ i, max (x (σ i) - t) 0 := by
  unfold excess
  congr 1
  exact (Equiv.sum_comp (Equiv.ofBijective σ (Finite.injective_iff_bijective.mp h.inj)) fun i => max (x i - t) 0).symm

/-- Whatever the threshold, its sum is at least the sum of the `k` largest. -/
theorem topSum_le_excess (h : Sorts x σ) (k : ℕ) (hk : k ≤ n) (t : ℝ) : topSum x σ k hk ≤ excess x k t := by
  rw [excess_sorted h, sum_split _ k hk]
  have h1 : topSum x σ k hk ≤ ∑ i : Fin k, (t + max (x (σ (i.castLE hk)) - t) 0) :=
    Finset.sum_le_sum fun i _ => by have := le_max_left (x (σ (i.castLE hk)) - t) 0; linarith
  rw [Finset.sum_add_distrib, Finset.sum_const, card_univ, Fintype.card_fin, nsmul_eq_mul] at h1
  have h2 : 0 ≤ ∑ i ∈ univ.filter (fun i : Fin n => k ≤ i.val), max (x (σ i) - t) 0 :=
    Finset.sum_nonneg fun i _ => le_max_right _ _
  linarith

/-- Where at most `k` entries are above the threshold and at least `k` at or above it, its sum is the sum of the `k` largest. -/
theorem topSum_eq_excess (h : Sorts x σ) (k : ℕ) (hk : k ≤ n) (t : ℝ) (h1 : (univ.filter fun i => t < x i).card ≤ k)
    (h2 : k ≤ (univ.filter fun i => t ≤ x i).card) : topSum x σ k hk = excess x k t := by
  rw [excess_sorted h, sum_split _ k hk]
  have ha : ∑ i ∈ univ.filter (fun i : Fin n => k ≤ i.val), max (x (σ i) - t) 0 = 0 :=
    Finset.sum_eq_zero fun i hi => max_eq_right (by have := kth_le_of_card h k t h1 i (mem_filter.mp hi).2; linarith)
  have hb : topSum x σ k hk = ∑ i : Fin k, (t + max (x (σ (i.castLE hk)) - t) 0) := by
    refine Finset.sum_congr rfl fun i _ => ?_
    have hi : t ≤ x (σ (i.castLE hk)) := by
      have := (le_kth_iff h i.val (i.isLt.trans_le hk) t).mpr (by have := i.isLt; omega)
      exact this
    rw [max_eq_left (by linarith)]; ring
  rw [ha, hb, Finset.sum_add_distrib, Finset.sum_const, card_univ, Fintype.card_fin, nsmul_eq_mul]
  ring

/-- The excess by the entries above the threshold: their sum, and the threshold for what is missing to `k`. -/
theorem excess_eq (x : Fin n → ℝ) (k : ℕ) (t : ℝ) :
    excess x k t = (∑ i, if t < x i then x i else 0) + (k - ∑ i, if t < x i then (1 : ℝ) else 0) * t := by
  unfold excess
  have : ∑ i, max (x i - t) 0 = (∑ i, if t < x i then x i else 0) - (∑ i, if t < x i then (1 : ℝ) else 0) * t := by
    rw [Finset.sum_mul, ← Finset.sum_sub_distrib]
    refine Finset.sum_congr rfl fun i _ => ?_
    by_cases hi : t < x i
    · rw [if_pos hi, if_pos hi, max_eq_left (by linarith)]; ring
    · rw [if_neg hi, if_neg hi, max_eq_right (by linarith)]; ring
  rw [this]; ring

/-- The positions a stable sort by "greater first" lists. -/
theorem sorts_sortedFrom (x : Fin n → ℝ) : Sorts x (sortedFrom fun i j => decide (x j < x i)) where
  inj := sortedFrom_injective _
  anti i j hij := by
    rcases hij.lt_or_eq with h | h
    · have := sortedFrom_noInversion (fun i j => decide (x j < x i)) (fun i j => decide (x j < x i))
        (fun a b hab => by simp only [decide_eq_true_eq, decide_eq_false_iff_not, not_lt] at hab ⊢; exact hab.le)
        (fun a b hab => hab)
        (fun a b c hab hbc => by simp only [decide_eq_false_iff_not, not_lt] at hab hbc ⊢; exact hab.trans hbc) i j h
      simpa using this
    · rw [h]

end Cert.TopK

end
-- ==== Proof.Math.Flat.lean ====
/- Sums over a two-dimensional array read as one list, and counts as sums of ones. -/
module

public import proofs.«01_k».proof.Proof.Math.Entropy
public import Idealize.ShloMosaic.Lib.ValueIdxCore
public import Mathlib.Logic.Equiv.Fin.Basic

@[expose] public section

noncomputable section

namespace Cert.Flat

open Idealize.ShloMosaic Idealize.ShloMosaic.ValueIdx

/-- A position in an array of `a` rows of `b` is below `a * b`. -/
theorem pos_lt {a b n : ℕ} (hn : a * b = n) (i : Fin a) (j : Fin b) : i.val * b + j.val < n := by
  subst hn
  calc i.val * b + j.val < i.val * b + b := Nat.add_lt_add_left j.isLt _
    _ = (i.val + 1) * b := (Nat.succ_mul _ _).symm
    _ ≤ a * b := Nat.mul_le_mul_right _ i.isLt

/-- A sum over one block of `a` rows of `b` is the sum over its positions in row order. -/
theorem sum_flat {M : Type*} [AddCommMonoid M] {a b n : ℕ} (hn : a * b = n) (f : (⟨3, ![1, a, b]⟩ : Shape).Idx → M) (g : Fin n → M)
    (h : ∀ i j, f (ix3 0 i j) = g ⟨i.val * b + j.val, pos_lt hn i j⟩) : ∑ x, f x = ∑ k, g k := by
  subst hn
  let e : (⟨3, ![1, a, b]⟩ : Shape).Idx ≃ Fin a × Fin b :=
    { toFun := fun x => (x 1, x 2)
      invFun := fun p => ix3 0 p.1 p.2
      left_inv := fun x => by
        funext d
        match d with
        | ⟨0, _⟩ => exact (Subsingleton.elim (α := Fin 1) _ _)
        | ⟨1, _⟩ => rfl
        | ⟨2, _⟩ => rfl
      right_inv := fun p => rfl }
  rw [← Equiv.sum_comp e.symm, ← Equiv.sum_comp finProdFinEquiv g]
  refine Finset.sum_congr rfl fun p _ => ?_
  refine (h p.1 p.2).trans (congrArg g (Fin.ext ?_))
  show p.1.val * b + p.2.val = p.2.val + b * p.1.val
  rw [Nat.mul_comm, Nat.add_comm]

/-- A sum of ones over what satisfies a condition counts it. -/
theorem sum_ones {ι : Type*} [Fintype ι] (p : ι → Prop) [DecidablePred p] :
    (∑ i, if p i then (1 : EReal) else 0) = (((Finset.univ.filter p).card : ℝ) : EReal) := by
  have : ((Finset.univ.filter p).card : ℝ) = ∑ i, if p i then (1 : ℝ) else 0 := by simp
  rw [this, Entropy.coe_sum]
  refine Finset.sum_congr rfl fun i _ => ?_
  split <;> rfl

/-- Comparing a count with a number, as extended reals. -/
theorem natCast_le_count (k n : ℕ) : (((k : ℝ)) : EReal) ≤ ((n : ℝ) : EReal) ↔ k ≤ n := by
  rw [EReal.coe_le_coe_iff]; exact Nat.cast_le

end Cert.Flat

end
-- ==== Proof.Ideal.Search.lean ====
/- The search over the first losses of one sample, over the extended reals. -/
module

public import proofs.«01_k».proof.Proof.Ideal.Loss
public import proofs.«01_k».proof.Proof.Math.Words
public import proofs.«01_k».proof.Proof.Math.TopK
public import proofs.«01_k».proof.Proof.Math.Flat
public import Idealize.ShloMosaic.Lib.IdealHost

@[expose] public section

set_option maxRecDepth 16384

noncomputable section

namespace Cert.KernelIdeal.Hand

open Idealize.ShloMosaic Idealize.ShloMosaic.ValueIdx
open Cert.KernelIdeal.Gen Cert.Entropy Cert.Flat Cert.Search

/-- The literal 3277. -/
theorem lit_sub : (Scalar.ofBits .f32 0x454CD000#32 : Ideal .f32) = (((3277 : ℕ) : ℝ) : EReal) := by
  show Ideal.ofBits .f32 0x454CD000#32 = _
  simp [Ideal.ofBits, Ideal.ieee, -EReal.coe_mul]; norm_num

/-- The literal 52428. -/
theorem lit_k : (Scalar.ofBits .f32 0x474CCC00#32 : Ideal .f32) = ((52428 : ℝ) : EReal) := by
  show Ideal.ofBits .f32 0x474CCC00#32 = _
  simp [Ideal.ofBits, Ideal.ieee, -EReal.coe_mul]; norm_num

/-- A comparison's outcome widened and converted: one or nothing. -/
theorem one_or_zero (b : Bool) : (FloatOps.sitofp .f32 ((BitVec.ofBool b).setWidth 32) : Ideal .f32) = if b = true then (1 : EReal) else 0 := by
  cases b
  · show ((((0#32 : BitVec 32).toInt : ℝ)) : EReal) = _
    simp
  · show ((((1#32 : BitVec 32).toInt : ℝ)) : EReal) = _
    simp

variable (L : Fin 262144 → ℝ)

/-- The first 16384 losses: those of the first 32 rows. -/
def head (n : Fin 16384) : ℝ := L (n.castLE (by decide))

/-- Enough of the first losses are at or above the value of word `c`. -/
def Enough (c : ℕ) : Prop := 3277 ≤ (Finset.univ.filter fun n => Words.val c ≤ ((head L n : ℝ) : EReal)).card

instance : DecidablePred (Enough L) := fun _ => inferInstanceAs (Decidable (_ ≤ _))

/-- A block of losses holds the list `L`. -/
def Lists (v : Vec Ideal S1x512x512 .bf16) : Prop :=
  ∀ i j : Fin 512, v (ix3 0 i j) = ((L ⟨i.val * 512 + j.val, pos_lt rfl i j⟩ : ℝ) : EReal)

variable {L}

/-- The count of one pass of the search. -/
theorem count_apply (v : Vec Ideal S1x512x512 .bf16) (hv : Lists L v) (k : Fin k0_t1_loop.trips) (acc : BitVec 32) (c : ℕ)
    (hc : Scalar.addi acc (Scalar.shli 1#32 (Scalar.subi 14#32 (Scf.iv 0#32 1#32 k))) = BitVec.ofNat 32 c) :
    k0_pay2 (firstRows v) k acc
      = (((Finset.univ.filter fun n => Words.val c ≤ ((head L n : ℝ) : EReal)).card : ℝ) : EReal) := by
  rw [← sum_ones]
  unfold k0_pay2
  dsimp only
  rw [hc]
  refine (Ideal.multiReduction_add_total _ 0x00000000#32 _ (by decide) (.inl rfl) rfl _).trans ?_
  refine sum_flat (a := 32) (b := 512) rfl _ _ fun i j => ?_
  rw [shapeCast_ab_1ab_apply, sitofp_apply, extui_apply, cmpf_apply, shapeCast_1ab_ab_apply]
  refine (one_or_zero (decide (Words.val c ≤ firstRows v (ix3 0 i j)))).trans ?_
  have hh : firstRows v (ix3 0 i j) = ((head L ⟨i.val * 512 + j.val, pos_lt rfl i j⟩ : ℝ) : EReal) :=
    (congrArg v (by
      funext a
      match a with
      | ⟨0, _⟩ => rfl
      | ⟨1, _⟩ => rfl
      | ⟨2, _⟩ => rfl)).trans (hv (i.castLE (by decide)) j)
  rw [hh]
  simp only [decide_eq_true_eq]

/-- The candidate of a pass, as a number. -/
theorem candidate (k : Fin k0_t1_loop.trips) (acc : BitVec 32) (h : acc.toNat + 2 ^ (14 - k.val) ≤ top) :
    Scalar.addi acc (Scalar.shli 1#32 (Scalar.subi 14#32 (Scf.iv 0#32 1#32 k))) = BitVec.ofNat 32 (acc.toNat + 2 ^ (14 - k.val)) := by
  have hb : ∀ k : Fin 15, Scalar.shli 1#32 (Scalar.subi 14#32 (Scf.iv 0#32 1#32 k)) = BitVec.ofNat 32 (2 ^ (14 - k.val)) := by decide
  rw [show Scalar.shli 1#32 (Scalar.subi 14#32 (Scf.iv 0#32 1#32 k)) = _ from hb k, BitVec.ofNat_add, BitVec.ofNat_toNat, BitVec.setWidth_eq]
  rfl

/-- What one pass does. -/
theorem pass_apply (v : Vec Ideal S1x512x512 .bf16) (hv : Lists L v) (k : Fin k0_t1_loop.trips) (acc : BitVec 32)
    (h : acc.toNat + 2 ^ (14 - k.val) ≤ top) :
    pass (firstRows v) k acc
      = if Enough L (acc.toNat + 2 ^ (14 - k.val)) then BitVec.ofNat 32 (acc.toNat + 2 ^ (14 - k.val)) else acc := by
  unfold pass
  rw [count_apply v hv k acc _ (candidate k acc h), candidate k acc h, lit_sub]
  show Scalar.select (BitVec.ofBool (decide ((((3277 : ℕ) : ℝ) : EReal) ≤ _))) _ _ = _
  by_cases hq : Enough L (acc.toNat + 2 ^ (14 - k.val))
  · rw [if_pos hq, decide_eq_true ((natCast_le_count _ _).mpr hq)]
    rfl
  · rw [if_neg hq, decide_eq_false (fun hn => hq ((natCast_le_count _ _).mp hn))]
    rfl

/-- The values of the words searched rise. -/
theorem val_mono {c d : ℕ} (h : c ≤ d) (hd : d ≤ top) : Words.val c ≤ Words.val d := by
  rcases hd.lt_or_eq with hd | rfl
  · rw [Words.val_eq d hd, Words.val_eq c (h.trans_lt hd), EReal.coe_le_coe_iff]
    exact Words.real_strictMono.monotone h
  · rw [Words.val_top]; exact le_top

/-- The search ends at the last word that enough of the first losses reach. -/
theorem word_spec (v : Vec Ideal S1x512x512 .bf16) (hv : Lists L v) (hL : ∀ n, 0 ≤ L n) :
    (word (firstRows v)).toNat < top ∧ Enough L (word (firstRows v)).toNat
      ∧ ∀ c, (word (firstRows v)).toNat < c → c ≤ top → ¬ Enough L c := by
  refine search (Enough L) ?_ ?_ ?_ (pass (firstRows v)) ?_ ?_
  · unfold Enough
    rw [Finset.filter_true_of_mem fun n _ => ?_, Finset.card_univ, Fintype.card_fin]
    · decide
    · rw [Words.val_eq 0 (by decide), Words.real_zero, EReal.coe_le_coe_iff]
      exact hL _
  · unfold Enough
    rw [Finset.filter_false_of_mem fun n _ => ?_]
    · decide
    · rw [Words.val_top]
      exact not_le.mpr (EReal.coe_lt_top _)
  · intro c d hcd hd hQ
    refine le_trans (show 3277 ≤ _ from hQ) (Finset.card_le_card fun n hn => ?_)
    exact Finset.mem_filter.mpr ⟨Finset.mem_univ _, (val_mono hcd hd).trans (Finset.mem_filter.mp hn).2⟩
  · intro k acc h hq
    rw [pass_apply v hv k acc h, if_pos hq, BitVec.toNat_ofNat]
    exact Nat.mod_eq_of_lt (lt_of_le_of_lt h (by decide))
  · intro k acc h hq
    rw [pass_apply v hv k acc h, if_neg hq]

/-- The value of the word found, as the last stage reads it. -/
theorem threshold_apply (w : BitVec 32) (h : w.toNat < top) : k0_pay3 (F := Ideal) w = ((Words.real w.toNat : ℝ) : EReal) := by
  rw [← Words.val_eq _ h]
  show Ideal.ofBits .f32 (IntOp.shli .scalar w 16#32) = _
  unfold Words.val
  rw [BitVec.ofNat_toNat, BitVec.setWidth_eq]
  rfl

end Cert.KernelIdeal.Hand

end
-- ==== Proof.Ideal.Sample.lean ====
/- What the kernel makes of one sample's losses, over the extended reals. -/
module

public import proofs.«01_k».proof.Proof.Ideal.Search
public import Idealize.ShloMosaic.Lib.IdealHost

@[expose] public section

set_option maxRecDepth 16384

noncomputable section

namespace Cert.KernelIdeal.Hand

open Idealize.ShloMosaic Idealize.ShloMosaic.ValueIdx
open Cert.KernelIdeal.Gen Cert.Entropy Cert.Flat Cert.Search

variable {L : Fin 262144 → ℝ}

/-- The sum of a block over both its axes is the sum over its positions. -/
theorem total_apply (X : FVec Ideal S512x512 .f32) (g : Fin 262144 → EReal)
    (h : ∀ i j : Fin 512, X (ix2 i j) = g ⟨i.val * 512 + j.val, pos_lt rfl i j⟩) :
    extractAt ![0, 0, 0] (shapeCast S1x1x1 (multiReduction .add [1, 2] S1 (shapeCast S1x512x512 X shapeCasts_S512x512_S1x512x512)
      0x00000000#32 reduces_S1x512x512_S1 (.inl rfl) rfl) shapeCasts_S1_S1x1x1) inpos_S1x1x1_p0_0_0 = ∑ n, g n := by
  refine (Ideal.multiReduction_add_total _ 0x00000000#32 _ (by decide) (.inl rfl) rfl _).trans ?_
  refine sum_flat (a := 512) (b := 512) rfl _ _ fun i j => ?_
  rw [shapeCast_ab_1ab_apply]
  exact h i j

/-- Which losses are above the threshold. -/
theorem mask_apply (v : Vec Ideal S1x512x512 .bf16) (hv : Lists L v) (w : BitVec 32) (h : w.toNat < top) (i j : Fin 512) :
    k0_pay5 w v (ix2 i j) = BitVec.ofBool (decide (Words.real w.toNat < L ⟨i.val * 512 + j.val, pos_lt rfl i j⟩)) := by
  unfold k0_pay5 k0_pay4
  rw [cmpf_apply, shapeCast_1ab_ab_apply, broadcast_apply, threshold_apply w h, hv i j]
  refine (rfl : _ = BitVec.ofBool (decide (((Words.real w.toNat : ℝ) : EReal) < ((L ⟨i.val * 512 + j.val, pos_lt rfl i j⟩ : ℝ) : EReal)))).trans ?_
  simp only [EReal.coe_lt_coe_iff]

/-- The count of the losses above the threshold is what was there before plus a total. -/
theorem pay6_eq (w : BitVec 32) (v : Vec Ideal S1x512x512 .bf16) (z s : EReal)
    (h : extractAt ![0, 0, 0] (shapeCast S1x1x1 (multiReduction .add [1, 2] S1 (shapeCast S1x512x512
      (sitofp (F := Ideal) .f32 (extui 32 (k0_pay5 w v) natLt_1_32)) shapeCasts_S512x512_S1x512x512)
      0x00000000#32 reduces_S1x512x512_S1 (.inl rfl) rfl) shapeCasts_S1_S1x1x1) inpos_S1x1x1_p0_0_0 = s) :
    k0_pay6 w v z = z + s := by
  rw [← h]; rfl

/-- The sum of the losses above the threshold is what was there before plus a total. -/
theorem pay7_eq (w : BitVec 32) (v : Vec Ideal S1x512x512 .bf16) (z s : EReal)
    (h : extractAt ![0, 0, 0] (shapeCast S1x1x1 (multiReduction .add [1, 2] S1 (shapeCast S1x512x512
      (extf (F := Ideal) .f32 (select (k0_pay5 w v) (k0_pay4 v) (broadcast S512x512 (Scalar.ofBits (F := Ideal) .bf16 0x0000#16))) bitsLt_bf16_f32)
      shapeCasts_S512x512_S1x512x512)
      0x00000000#32 reduces_S1x512x512_S1 (.inl rfl) rfl) shapeCasts_S1_S1x1x1) inpos_S1x1x1_p0_0_0 = s) :
    k0_pay7 w v z = z + s := by
  rw [← h]; rfl

/-- The count of the losses above the threshold. -/
theorem above_apply (v : Vec Ideal S1x512x512 .bf16) (hv : Lists L v) (w : BitVec 32) (h : w.toNat < top) :
    k0_pay6 w v (Scalar.ofBits (F := Ideal) .f32 0x00000000#32)
      = ((∑ n, if Words.real w.toNat < L n then (1 : ℝ) else 0 : ℝ) : EReal) := by
  rw [coe_sum]
  have e := total_apply (sitofp .f32 (extui 32 (k0_pay5 w v) natLt_1_32)) (fun n => ((if Words.real w.toNat < L n then (1 : ℝ) else 0 : ℝ) : EReal)) fun i j => ?_
  · exact (pay6_eq w v _ _ e).trans ((congrArg (· + _) Ideal.ofBits_zero_f32).trans (zero_add _))
  rw [sitofp_apply, extui_apply, mask_apply v hv w h i j]
  refine (one_or_zero _).trans ?_
  simp only [decide_eq_true_eq]
  by_cases hlt : Words.real w.toNat < L ⟨i.val * 512 + j.val, pos_lt rfl i j⟩
  · rw [if_pos hlt, if_pos hlt, EReal.coe_one]
  · rw [if_neg hlt, if_neg hlt, EReal.coe_zero]

/-- The sum of the losses above the threshold. -/
theorem sum_apply (v : Vec Ideal S1x512x512 .bf16) (hv : Lists L v) (w : BitVec 32) (h : w.toNat < top) :
    k0_pay7 w v (Scalar.ofBits (F := Ideal) .f32 0x00000000#32)
      = ((∑ n, if Words.real w.toNat < L n then L n else 0 : ℝ) : EReal) := by
  rw [coe_sum]
  have e := total_apply (extf .f32 (select (k0_pay5 w v) (k0_pay4 v) (broadcast S512x512 (Scalar.ofBits (F := Ideal) .bf16 0x0000#16))) bitsLt_bf16_f32) (fun n => ((if Words.real w.toNat < L n then L n else 0 : ℝ) : EReal)) fun i j => ?_
  · exact (pay7_eq w v _ _ e).trans ((congrArg (· + _) Ideal.ofBits_zero_f32).trans (zero_add _))
  rw [extf_apply, select_apply, broadcast_apply, mask_apply v hv w h i j]
  unfold k0_pay4
  rw [shapeCast_1ab_ab_apply, hv i j]
  by_cases hlt : Words.real w.toNat < L ⟨i.val * 512 + j.val, pos_lt rfl i j⟩
  · rw [if_pos hlt, decide_eq_true hlt]
    rfl
  · rw [if_neg hlt, decide_eq_false hlt, EReal.coe_zero]
    exact Ideal.ofBits_zero_bf16

/-- The result of one sample: the sum its threshold gives, as a mean. -/
theorem result_apply (v : Vec Ideal S1x512x512 .bf16) (hv : Lists L v) (hL : ∀ n, 0 ≤ L n) (x : S1x1x128.Idx) :
    result v x = ((TopK.excess L 52428 (Words.real (word (firstRows v)).toNat) / 52428 : ℝ) : EReal) := by
  have hw := (word_spec v hv hL).1
  unfold result k0_pay8
  rw [above_apply v hv _ hw, sum_apply v hv _ hw, broadcast_apply, lit_k,
    show (Scalar.extf .f32 bitsLt_bf16_f32 (k0_pay3 (F := Ideal) (word (firstRows v))) : Ideal .f32)
      = ((Words.real (word (firstRows v)).toNat : ℝ) : EReal) from threshold_apply _ hw, TopK.excess_eq]
  show Ideal.div (((_ : ℝ) : EReal) + ((((52428 : ℝ) : ℝ) : EReal) - ((_ : ℝ) : EReal)) * ((_ : ℝ) : EReal)) ((52428 : ℝ) : EReal) = _
  rw [Ideal.div_coe (by norm_num), ← EReal.coe_sub, ← EReal.coe_mul, ← EReal.coe_add, ← EReal.coe_mul]
  congr 1
  push_cast
  ring

end Cert.KernelIdeal.Hand

end
-- ==== Proof.Math.Problem.lean ====
/- The losses of one sample as a list, in the order of the rows. -/
module

public import proofs.«01_k».proof.Proof.Math.Flat

@[expose] public section

noncomputable section

namespace Cert.Problem

open Cert.Entropy Cert.Flat

/-- The row of a position. -/
def row (n : Fin 262144) : Fin 512 := ⟨n.val / 512, by have := n.isLt; omega⟩
/-- The column of a position. -/
def col (n : Fin 262144) : Fin 512 := ⟨n.val % 512, Nat.mod_lt _ (by decide)⟩

/-- The position of a row and a column has that row. -/
theorem row_pos (i j : Fin 512) : row ⟨i.val * 512 + j.val, pos_lt rfl i j⟩ = i := Fin.ext (by
  have := j.isLt
  show (i.val * 512 + j.val) / 512 = i.val
  omega)
/-- The position of a row and a column has that column. -/
theorem col_pos (i j : Fin 512) : col ⟨i.val * 512 + j.val, pos_lt rfl i j⟩ = j := Fin.ext (by
  have := j.isLt
  show (i.val * 512 + j.val) % 512 = j.val
  omega)
/-- A position is that of its row and column. -/
theorem pos_row_col (n : Fin 262144) : (row n).val * 512 + (col n).val = n.val := by
  show n.val / 512 * 512 + n.val % 512 = n.val
  omega

variable (x : Fin 8 → Fin 19 → Fin 512 → Fin 512 → ℝ) (t : Fin 8 → Fin 512 → Fin 512 → BitVec 32)

/-- The losses of sample `b`: the cross entropy at each position. -/
def losses (b : Fin 8) (n : Fin 262144) : ℝ := entropy (fun c => x b c (row n) (col n)) (t b (row n) (col n))

/-- The loss at the position of a row and a column. -/
theorem losses_pos (b : Fin 8) (i j : Fin 512) :
    losses x t b ⟨i.val * 512 + j.val, pos_lt rfl i j⟩ = entropy (fun c => x b c i j) (t b i j) := by
  unfold losses
  rw [row_pos, col_pos]

/-- A cross entropy is not negative. -/
theorem losses_nonneg (b : Fin 8) (n : Fin 262144) : 0 ≤ losses x t b n := entropy_nonneg _ _

end Cert.Problem

end
-- ==== Proof.Math.Mean.lean ====
/- The mean of eight numbers as a program takes it, over the extended reals. -/
module

public import proofs.«01_k».proof.Proof.Math.Entropy
public import Idealize.ShloMosaic.Lib.ValueIdxCore
public import Idealize.ShloMosaic.Lib.IdealHost

@[expose] public section

noncomputable section

namespace Cert.Mean

open Idealize.ShloMosaic Idealize.ShloMosaic.ValueIdx

/-- The literal 8. -/
theorem lit_8 : Ideal.ofBits .f32 0x41000000#32 = ((8 : ℝ) : EReal) := by
  simp [Ideal.ofBits, Ideal.ieee, -EReal.coe_mul]; norm_num

/-- A sum over the indices of a list is the sum over its positions. -/
theorem sum_list {M : Type*} [AddCommMonoid M] {a : ℕ} (f : (⟨1, ![a]⟩ : Shape).Idx → M) : ∑ x, f x = ∑ i : Fin a, f (ix1 i) := by
  let e : (⟨1, ![a]⟩ : Shape).Idx ≃ Fin a :=
    { toFun := fun x => x 0
      invFun := fun i => ix1 i
      left_inv := fun x => by
        funext d
        match d with
        | ⟨0, _⟩ => rfl
      right_inv := fun i => rfl }
  exact (Equiv.sum_comp e.symm f).symm

/-- Eight numbers summed and divided by eight. -/
theorem mean_eq (X : FVec Ideal ⟨1, ![8]⟩ .f32) (r : Fin 8 → ℝ) (h : ∀ b, X (ix1 b) = ((r b : ℝ) : EReal))
    (hr : (⟨1, ![8]⟩ : Shape).ReducesTo [0] ⟨0, ![]⟩) (hu : 0 < (⟨0, ![]⟩ : Shape).numel) (i : (⟨0, ![]⟩ : Shape).Idx) :
    Host.divf (Host.reduceAdd X (constant (F := Ideal) ⟨0, ![]⟩ .f32 0x00000000#32) hr hu) (constant (F := Ideal) ⟨0, ![]⟩ .f32 0x41000000#32) i
      = (((∑ b, r b) / 8 : ℝ) : EReal) := by
  rw [hostDivf_apply, hostReduceAdd_apply, Ideal.hostReduceAdd_total hr (fun b => b.elim0), sum_list]
  have e8 : constant (F := Ideal) ⟨0, ![]⟩ .f32 0x41000000#32 i = ((8 : ℝ) : EReal) := lit_8
  have e0 : constant (F := Ideal) ⟨0, ![]⟩ .f32 0x00000000#32 (Shape.Idx.first hu) = (0 : EReal) := Ideal.ofBits_zero_f32
  rw [e8, e0, zero_add, Finset.sum_congr rfl fun b _ => h b, ← Entropy.coe_sum, Ideal.div_coe (by norm_num), ← EReal.coe_mul,
    ← div_eq_mul_one_div]

end Cert.Mean

end
-- ==== Proof.Ideal.Value.lean ====
/- The value the kernel returns, over the extended reals, from finite logits and targets in range. -/
module

public import proofs.«01_k».proof.Proof.Ideal.Array
public import proofs.«01_k».proof.Proof.Ideal.Sample
public import proofs.«01_k».proof.Proof.Math.Problem
public import proofs.«01_k».proof.Proof.Math.Mean

@[expose] public section

set_option maxRecDepth 16384

noncomputable section

namespace Cert.KernelIdeal.Hand

open Idealize.ShloMosaic Idealize.ShloMosaic.TcCoe Idealize.ShloMosaic.ValueIdx
open Cert.KernelIdeal.Gen Cert.Entropy Cert.Flat Cert.Search Cert.Problem

variable (m : (ℓ : Loc nD τ sig) → Buf (Elt Ideal) ℓ) (c : Dev nD)

/-- The logits' block at a sample's point is the sample's. -/
theorem in_index0 : ∀ b : Fin 8, win0_0.index (point b) = ![b.val, 0, 0, 0] := by decide +kernel
/-- The targets' block at a sample's point is the sample's. -/
theorem in_index1 : ∀ b : Fin 8, win0_1.index (point b) = ![b.val, 0, 0] := by decide +kernel

/-- The logits fetched for a sample. -/
theorem logits_apply (b : Fin 8) (k : Fin 19) (i j : Fin 512) :
    iblk m c 0 (point b) (ix4 0 k i j) = m ((c.tc : Thread nD τ).loc main_arg0) (ix4 b k i j) := by
  have e := in_index0 b
  blk_simp [iblk]
  refine congrArg (m ((c.tc : Thread nD τ).loc main_arg0)) ?_
  blk_ext [e]

/-- The targets fetched for a sample. -/
theorem targets_apply (b : Fin 8) (i j : Fin 512) :
    iblk m c 1 (point b) (ix3 0 i j) = m ((c.tc : Thread nD τ).loc main_arg1) (ix3 b i j) := by
  have e := in_index1 b
  blk_simp [iblk]
  refine congrArg (m ((c.tc : Thread nD τ).loc main_arg1)) ?_
  blk_ext [e]

variable (x : Fin 8 → Fin 19 → Fin 512 → Fin 512 → ℝ) (t : Fin 8 → Fin 512 → Fin 512 → BitVec 32)
variable (hx : ∀ b k i j, m ((c.tc : Thread nD τ).loc main_arg0) (ix4 b k i j) = ((x b k i j : ℝ) : EReal))
variable (ht : ∀ b i j, m ((c.tc : Thread nD τ).loc main_arg1) (ix3 b i j) = t b i j)
variable (hr : ∀ b i j, Target (t b i j))

include hx ht hr in
/-- The losses computed for a sample are the sample's cross entropies. -/
theorem lossAt_lists (b : Fin 8) : Lists (losses x t b) (lossAt m c (point b)) := fun i j => by
  have e := targets_apply m c b i j
  rw [losses_pos, ← ht b i j, ← e]
  exact lossOf_apply _ _ (fun k => x b k i j) i j (fun k => (logits_apply m c b k i j).trans (hx b k i j)) (by rw [e, ht]; exact hr b i j)

/-- The word the search for a sample ends with. -/
def wordAt (b : Fin 8) : BitVec 32 := word (firstRows (lossAt m c (point b)))

include hx ht hr in
/-- The word is the last one that enough of the sample's first losses reach. -/
theorem wordAt_spec (b : Fin 8) : (wordAt m c b).toNat < top ∧ Enough (losses x t b) (wordAt m c b).toNat
      ∧ ∀ d, (wordAt m c b).toNat < d → d ≤ top → ¬ Enough (losses x t b) d :=
  word_spec _ (lossAt_lists m c x t hx ht hr b) (losses_nonneg x t b)

include hx ht hr in
/-- A sample's result. -/
theorem results_apply (b : Fin 8) :
    results m c (ix3 b 0 0) = ((TopK.excess (losses x t b) 52428 (Words.real (wordAt m c b).toNat) / 52428 : ℝ) : EReal) :=
  result_apply _ (lossAt_lists m c x t hx ht hr b) (losses_nonneg x t b) _

/-- The program's result from an array of reals: their mean over the samples. -/
theorem total_eq (A : Vec Ideal S8x1x128 .f32) (r : Fin 8 → ℝ) (h : ∀ b, A (ix3 b 0 0) = ((r b : ℝ) : EReal)) (i : S_.Idx) :
    total A i = (((∑ b, r b) / 8 : ℝ) : EReal) := by
  refine Mean.mean_eq _ r (fun b => ?_) reducesTo_S8_S_d0 h_S_ i
  rw [shapeCast_apply _ _ (ix1 b) (ix3 b 0 0 : S8x1x1.Idx) (by rw [Shape.rowMajor_val_one, Shape.rowMajor_val_three]; simp [ix1, ix3]),
    extractStridedSlice_apply _ _ _ (ix3 b 0 0 : S8x1x1.Idx) (ix3 b 0 0) (by intro a; match a with | ⟨0, _⟩ => simp [ix3] | ⟨1, _⟩ => rfl | ⟨2, _⟩ => rfl)]
  exact h b

include hx ht hr in
/-- The kernel's result. -/
theorem value (i : S_.Idx) : total (results m c) i
    = (((∑ b, TopK.excess (losses x t b) 52428 (Words.real (wordAt m c b).toNat) / 52428) / 8 : ℝ) : EReal) :=
  total_eq _ _ (results_apply m c x t hx ht hr) i

end Cert.KernelIdeal.Hand

end
-- ==== Proof.Pre.Loss.lean ====
/- The losses as the reference and the precondition compute them, over the extended reals: the cross entropies. -/
module

public import proofs.«01_k».proof.Pre_sampled_threshold_splits
public import proofs.«01_k».proof.Proof.Math.Problem
public import Idealize.ShloMosaic.Lib.ValueIdx
public import Idealize.ShloMosaic.Lib.IdealHost
public import Idealize.ShloMosaic.Lib.ReduceAll
public import Idealize.ShloMosaic.Lib.Pipeline.Value
public import Idealize.ShloMosaic.PureOps.Ideal.Laws
public import Mathlib.Tactic.Ring

@[expose] public section

set_option maxRecDepth 16384

noncomputable section

namespace Cert.Loss

open Idealize.ShloMosaic Idealize.ShloMosaic.ValueIdx
open Cert.Pre_sampled_threshold_splits Cert.Pre_sampled_threshold_splits.Facts Cert.Entropy Cert.Problem

variable [Facts]

/-- The pattern of minus infinity. -/
theorem lit_bot : Ideal.ofBits .f32 0xFF800000#32 = (⊥ : EReal) := by simp [Ideal.ofBits, Ideal.ieee]

/-- The largest of some extended reals is one of them, and none is above it. -/
theorem fold_max {n : ℕ} (f : Fin (n + 1) → EReal) :
    (∃ k, (Finset.univ : Finset (Fin (n + 1))).fold max ⊥ f = f k) ∧ ∀ k, f k ≤ (Finset.univ : Finset (Fin (n + 1))).fold max ⊥ f := by
  have e : (Finset.univ : Finset (Fin (n + 1))).fold max ⊥ f = Finset.univ.sup f := rfl
  rw [e]
  refine ⟨?_, fun k => Finset.le_sup (Finset.mem_univ k)⟩
  obtain ⟨k, _, hk⟩ := Finset.exists_mem_eq_sup Finset.univ Finset.univ_nonempty f
  exact ⟨k, hk⟩

/-- An array without the class axis, given a unit one. -/
theorem unit_apply {α : Type} (h : S8x512x512.BroadcastsInDim S8x1x512x512 ![0, 2, 3]) (y : S8x512x512.Idx → α) (b : Fin 8) (u : Fin 1) (i j : Fin 512) :
    broadcastInDim S8x1x512x512 ![0, 2, 3] h y (ix4 b u i j) = y (ix3 b i j) :=
  broadcastInDim_apply _ h y _ _ fun a => by
    match a with
    | ⟨0, _⟩ => rfl
    | ⟨1, _⟩ => rfl
    | ⟨2, _⟩ => rfl

/-- An array with a unit class axis, repeated over the classes. -/
theorem classes_apply {α : Type} (h : S8x1x512x512.BroadcastsInDim S8x19x512x512 ![0, 1, 2, 3]) (y : S8x1x512x512.Idx → α) (b : Fin 8) (k : Fin 19)
    (i j : Fin 512) : broadcastInDim S8x19x512x512 ![0, 1, 2, 3] h y (ix4 b k i j) = y (ix4 b 0 i j) :=
  broadcastInDim_apply _ h y _ _ fun a => by
    match a with
    | ⟨0, _⟩ => rfl
    | ⟨1, _⟩ => rfl
    | ⟨2, _⟩ => rfl
    | ⟨3, _⟩ => rfl

/-- The class axis, dropped. -/
theorem drops : S8x19x512x512.Reduces [1] S8x512x512 := by decide

/-- The index with the class put back. -/
theorem lift_ix (b : Fin 8) (i j : Fin 512) (k : Fin 19) : drops.lift (ix3 b i j) k = ix4 b k i j := by
  funext a
  match a with
  | ⟨0, _⟩ => rfl
  | ⟨1, _⟩ => rfl
  | ⟨2, _⟩ => rfl
  | ⟨3, _⟩ => rfl

/-- The largest logit of each voxel. -/
def largest (X : FVec Ideal S8x19x512x512 .f32) : FVec Ideal S8x512x512 .f32 :=
  maximumf (broadcastInDim S8x512x512 ![] bcast_S_S8x512x512 (constant S_ .f32 0xFF800000#32))
    (Host.reduce FloatOps.maximumf X (constant S_ .f32 0xFF800000#32) reducesTo_S8x19x512x512_S8x512x512_d1 h_S_)

/-- The largest of a voxel's finite logits is finite. -/
theorem largest_apply (X : FVec Ideal S8x19x512x512 .f32) (x : Fin 19 → ℝ) (b : Fin 8) (i j : Fin 512)
    (hx : ∀ k, X (ix4 b k i j) = ((x k : ℝ) : EReal)) : ∃ M : ℝ, largest X (ix3 b i j) = ((M : ℝ) : EReal) := by
  have e : largest X (ix3 b i j) = (Finset.univ : Finset (Fin 19)).fold max ⊥ (fun k => ((x k : ℝ) : EReal)) := by
    unfold largest
    rw [maximumf_apply, Host.reduce_eq_fold_single FloatOps.maximumf X _ reducesTo_S8x19x512x512_S8x512x512_d1 drops h_S_]
    refine (congrArg₂ (max : EReal → EReal → EReal) ((broadcastInDim_scalar_apply _ _ _).trans lit_bot) ?_).trans (max_eq_right bot_le)
    have hf : (X ∘ drops.lift (ix3 b i j)) = fun k : Fin 19 => ((x k : ℝ) : EReal) := funext fun k => (congrArg X (lift_ix b i j k)).trans (hx k)
    have h0 : constant (F := Ideal) S_ .f32 0xFF800000#32 (Shape.Idx.first h_S_) = (⊥ : EReal) := lit_bot
    rw [hf, h0]
    rfl
  obtain ⟨k, hk⟩ := (fold_max fun k : Fin 19 => ((x k : ℝ) : EReal)).1
  exact ⟨x k, e.trans hk⟩

/-- The logarithm of the softmax, at a voxel and a class. -/
theorem log_softmax_apply (X : FVec Ideal S8x19x512x512 .f32) (x : Fin 19 → ℝ) (b : Fin 8) (i j : Fin 512)
    (hx : ∀ k, X (ix4 b k i j) = ((x k : ℝ) : EReal)) (k : Fin 19) :
    fn_log_softmax X (ix4 b k i j) = ((x k - lse x : ℝ) : EReal) := by
  obtain ⟨M, hM⟩ := largest_apply X x b i j hx
  let D : FVec Ideal S8x19x512x512 .f32 := subf X (broadcastInDim S8x19x512x512 ![0, 1, 2, 3] bcast_S8x1x512x512_S8x19x512x512_0_1_2_3
    (broadcastInDim S8x1x512x512 ![0, 2, 3] bcast_S8x512x512_S8x1x512x512_0_2_3 (largest X)))
  have hD (c : Fin 19) : D (ix4 b c i j) = ((x c - M : ℝ) : EReal) := by
    show subf X _ (ix4 b c i j) = _
    rw [subf_apply, classes_apply, unit_apply, hx, hM, EReal.coe_sub]
  have hS : Host.reduceAdd (Host.exp D) (constant (F := Ideal) S_ .f32 0x00000000#32) reducesTo_S8x19x512x512_S8x512x512_d1 h_S_ (ix3 b i j)
      = ∑ c : Fin 19, Ideal.exp ((x c - M : ℝ) : EReal) := by
    rw [hostReduceAdd_apply, Ideal.hostReduceAdd_single _ drops]
    have h0 : constant (F := Ideal) S_ .f32 0x00000000#32 (Shape.Idx.first h_S_) = (0 : EReal) := Ideal.ofBits_zero_f32
    rw [h0, zero_add]
    refine Finset.sum_congr rfl fun c _ => ?_
    exact (congrArg (Host.exp D) (lift_ix b i j c)).trans (congrArg Ideal.exp (hD c))
  have e : fn_log_softmax X (ix4 b k i j) = D (ix4 b k i j) - broadcastInDim S8x19x512x512 ![0, 1, 2, 3] bcast_S8x1x512x512_S8x19x512x512_0_1_2_3
      (Host.log (broadcastInDim S8x1x512x512 ![0, 2, 3] bcast_S8x512x512_S8x1x512x512_0_2_3
        (Host.reduceAdd (Host.exp D) (constant (F := Ideal) S_ .f32 0x00000000#32) reducesTo_S8x19x512x512_S8x512x512_d1 h_S_))) (ix4 b k i j) := rfl
  rw [e, hD, classes_apply]
  have hL : Host.log (broadcastInDim S8x1x512x512 ![0, 2, 3] bcast_S8x512x512_S8x1x512x512_0_2_3
        (Host.reduceAdd (Host.exp D) (constant (F := Ideal) S_ .f32 0x00000000#32) reducesTo_S8x19x512x512_S8x512x512_d1 h_S_)) (ix4 b 0 i j)
      = ((lse x - M : ℝ) : EReal) := by
    refine (congrArg Ideal.log ((unit_apply _ _ b 0 i j).trans hS)).trans ?_
    rw [log_sum_exp fun c => x c - M, lse_sub]
  rw [hL, ← EReal.coe_sub]
  exact congrArg Real.toEReal (by ring)

/-- A number below 19 is in the range the lookup checks. -/
theorem inRange (a : BitVec 32) (h : a.toNat < 19) : IntOp.andi (IntOp.cmpi .sge a 0#32) (IntOp.cmpi .sle a 18#32) = 1#1
    ∧ IntOp.cmpi .slt a 0#32 = 0#1 ∧ min a.toInt.toNat 18 = a.toNat := by
  obtain ⟨k, hk, rfl⟩ : ∃ k, k < 19 ∧ a = BitVec.ofNat 32 k := ⟨a.toNat, h, by simp⟩
  clear h
  revert k
  decide

/-- The class read for each voxel, with the trailing unit axis. -/
def starts (y : IVec S8x1x512x512 32) : IVec S8x1x512x512x1 32 :=
  shapeCast S8x1x512x512x1 (select (cmpi .slt y (broadcastInDim S8x1x512x512 ![] bcast_S_S8x1x512x512 (constantI S_ 32 0#32)))
    (addi y (broadcastInDim S8x1x512x512 ![] bcast_S_S8x1x512x512 (constantI S_ 32 19#32))) y) shapeCasts_S8x1x512x512_S8x1x512x512x1

/-- Where every class is below 19 it is read as it is. -/
theorem starts_apply (y : IVec S8x1x512x512 32) (hy : ∀ p, (y p).toNat < 19) (b : Fin 8) (u : Fin 1) (i j : Fin 512) (w : Fin 1) :
    starts y (ix5 b u i j w) = y (ix4 b u i j) := by
  unfold starts
  rw [shapeCast_apply _ _ _ (ix4 b u i j) (by
    rw [Shape.rowMajor_val_four, Shape.rowMajor_val_five]
    have := w.isLt
    show ((b.val * 1 + u.val) * 512 + i.val) * 512 + j.val = (((b.val * 1 + u.val) * 512 + i.val) * 512 + j.val) * 1 + w.val
    omega), select_apply]
  have hc : cmpi .slt y (broadcastInDim S8x1x512x512 ![] bcast_S_S8x1x512x512 (constantI S_ 32 0#32)) (ix4 b u i j) = 0#1 :=
    (congrArg (IntOp.cmpi .slt (y (ix4 b u i j))) (broadcastInDim_scalar_apply _ _ _)).trans (inRange _ (hy _)).2.1
  rw [hc, select_zero]

/-- The lookup reads, for each voxel, the class its index names. -/
theorem gather_apply {α : Type} (x : S8x19x512x512.Idx → α) (y : IVec S8x1x512x512x1 32) (b : Fin 8) (i j : Fin 512) (k : Fin 19)
    (hk : min (y (ix5 b 0 i j 0)).toInt.toNat 18 = k.val) :
    Host.gather gather_S8x19x512x512_S8x1x512x512x1_S8x1x512x512_n_1_023_023_1_4_1111 x y (ix4 b 0 i j) = x (ix4 b k i j) := by
  let g := gather_S8x19x512x512_S8x1x512x512x1_S8x1x512x512_n_1_023_023_1_4_1111
  unfold Host.gather
  refine congrArg x (funext fun a => Fin.ext ?_)
  show g.start (ix4 b 0 i j) y a + g.batchCoord (ix4 b 0 i j) a + g.offCoord (ix4 b 0 i j) a = _
  have hbatch (a : Fin 4) (ha : a ∈ g.operandBatchingDims) (v : ℕ) (hv : g.batchCoord (ix4 b 0 i j) a = v) :
      g.start (ix4 b 0 i j) y a + g.batchCoord (ix4 b 0 i j) a + g.offCoord (ix4 b 0 i j) a = v := by
    rw [GatherDims.start_batching _ _ _ _ ha, GatherDims.offCoord_eq_zero _ _ _ (fun h => ((GatherDims.mem_sKept _ _).mp h).2 ha), hv]
    omega
  match a with
  | ⟨0, _⟩ =>
    have hm : (0 : Fin 4) ∈ g.operandBatchingDims := (by decide : (0 : Fin 4) ∈ ([0, 2, 3] : List (Fin 4)))
    refine hbatch 0 hm _ ?_
    unfold GatherDims.batchCoord
    rw [dif_pos hm]
    rfl
  | ⟨1, _⟩ =>
    show g.start (ix4 b 0 i j) y 1 + g.batchCoord (ix4 b 0 i j) 1 + g.offCoord (ix4 b 0 i j) 1 = k.val
    rw [GatherDims.batchCoord_eq_zero _ _ _ (by decide : (1 : Fin 4) ∉ ([0, 2, 3] : List (Fin 4))),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ g.startIndexMap from List.mem_singleton.mpr rfl)]
    have hsi : g.siIdx (ix4 b 0 i j) ⟨List.idxOf (1 : Fin 4) g.startIndexMap, List.idxOf_lt_length_iff.2 (List.mem_singleton.mpr rfl)⟩ = ix5 b 0 i j 0 := by
      funext d
      refine Fin.ext ?_
      match d with
      | ⟨0, _⟩ => rfl
      | ⟨1, _⟩ => rfl
      | ⟨2, _⟩ => rfl
      | ⟨3, _⟩ => rfl
      | ⟨4, _⟩ => rfl
    rw [hsi]
    exact hk
  | ⟨2, _⟩ =>
    have hm : (2 : Fin 4) ∈ g.operandBatchingDims := (by decide : (2 : Fin 4) ∈ ([0, 2, 3] : List (Fin 4)))
    refine hbatch 2 hm _ ?_
    unfold GatherDims.batchCoord
    rw [dif_pos hm]
    rfl
  | ⟨3, _⟩ =>
    have hm : (3 : Fin 4) ∈ g.operandBatchingDims := (by decide : (3 : Fin 4) ∈ ([0, 2, 3] : List (Fin 4)))
    refine hbatch 3 hm _ ?_
    unfold GatherDims.batchCoord
    rw [dif_pos hm]
    rfl

/-- The lookup along the class axis, where every class is below 19. -/
theorem take_apply (X : FVec Ideal S8x19x512x512 .f32) (y : IVec S8x1x512x512 32) (hy : ∀ p, (y p).toNat < 19) (b : Fin 8) (i j : Fin 512) :
    fn_take_along_axis X y (ix4 b 0 i j) = X (ix4 b ⟨(y (ix4 b 0 i j)).toNat, hy _⟩ i j) := by
  let ok : IVec S8x1x512x512 1 := Host.reduce IntOp.andi
    (andi (cmpi .sge (starts y) (broadcastInDim S8x1x512x512x1 ![] bcast_S_S8x1x512x512x1 (constantI S_ 32 0#32)))
      (cmpi .sle (starts y) (broadcastInDim S8x1x512x512x1 ![0, 1, 2, 3, 4] bcast_S1x1x1x1x1_S8x1x512x512x1_0_1_2_3_4
        (broadcastInDim S1x1x1x1x1 ![4] bcast_S1_S1x1x1x1x1_4 (constantI S1 32 18#32)))))
    (constantI S_ 1 1#1) reducesTo_S8x1x512x512x1_S8x1x512x512_d4 h_S_
  have hok : ok (ix4 b 0 i j) = 1#1 := Host.reduce_andi_one _ _ _ _ _ rfl fun p => by
    obtain ⟨q, hq⟩ : ∃ q, starts y p = y q := ⟨_, (congrArg (starts y) (eq_ix5 p)).trans (starts_apply y hy _ _ _ _ _)⟩
    show IntOp.andi (IntOp.cmpi .sge (starts y p) 0#32) (IntOp.cmpi .sle (starts y p) 18#32) = 1#1
    rw [hq]
    exact (inRange _ (hy _)).1
  have e : fn_take_along_axis X y (ix4 b 0 i j) = Scalar.select (ok (ix4 b 0 i j))
      (Host.gather gather_S8x19x512x512_S8x1x512x512x1_S8x1x512x512_n_1_023_023_1_4_1111 X (starts y) (ix4 b 0 i j))
      (broadcastInDim S8x1x512x512 ![] bcast_S_S8x1x512x512 (constant (F := Ideal) S_ .f32 0x7FC00000#32) (ix4 b 0 i j)) := rfl
  rw [e, hok, select_one]
  refine gather_apply X (starts y) b i j _ ?_
  rw [starts_apply y hy]
  exact (inRange _ (hy _)).2.2

/-- The class looked up for each voxel: the target's, and the first one for a voxel left out. -/
def wanted (T : IVec S8x512x512 32) : IVec S8x1x512x512 32 :=
  broadcastInDim S8x1x512x512 ![0, 2, 3] bcast_S8x512x512_S8x1x512x512_0_2_3
    (fn_where (F := Ideal) (cmpi .eq T (broadcastInDim S8x512x512 ![] bcast_S_S8x512x512 (constantI S_ 32 4294967295#32))) (constantI S_ 32 0#32) T)

/-- Whether a voxel is left out. -/
theorem left_out (T : IVec S8x512x512 32) (b : Fin 8) (i j : Fin 512) :
    cmpi .eq T (broadcastInDim S8x512x512 ![] bcast_S_S8x512x512 (constantI S_ 32 4294967295#32)) (ix3 b i j) = BitVec.ofBool (T (ix3 b i j) == ignored) :=
  congrArg (IntOp.cmpi .eq (T (ix3 b i j))) (broadcastInDim_scalar_apply _ _ _)

/-- The class looked up for a voxel. -/
theorem wanted_apply (T : IVec S8x512x512 32) (b : Fin 8) (u : Fin 1) (i j : Fin 512) :
    wanted T (ix4 b u i j) = if T (ix3 b i j) = ignored then 0#32 else T (ix3 b i j) := by
  unfold wanted
  rw [unit_apply]
  have e : fn_where (F := Ideal) (cmpi .eq T (broadcastInDim S8x512x512 ![] bcast_S_S8x512x512 (constantI S_ 32 4294967295#32))) (constantI S_ 32 0#32) T (ix3 b i j)
      = Scalar.select (cmpi .eq T (broadcastInDim S8x512x512 ![] bcast_S_S8x512x512 (constantI S_ 32 4294967295#32)) (ix3 b i j)) 0#32 (T (ix3 b i j)) := rfl
  rw [e, left_out]
  by_cases h : T (ix3 b i j) = ignored
  · rw [if_pos h, beq_iff_eq.mpr h]; rfl
  · rw [if_neg h, beq_eq_false_iff_ne.mpr h]; rfl

/-- It is below 19. -/
theorem wanted_lt (T : IVec S8x512x512 32) (hT : ∀ b i j, Target (T (ix3 b i j))) (p : S8x1x512x512.Idx) : (wanted T p).toNat < 19 := by
  obtain ⟨b, i, j, hq⟩ : ∃ b i j, wanted T p = if T (ix3 b i j) = ignored then 0#32 else T (ix3 b i j) :=
    ⟨_, _, _, (congrArg (wanted T) (eq_ix4 p)).trans (wanted_apply T _ _ _ _)⟩
  rw [hq]
  split
  · decide
  · next h => exact (hT b i j).resolve_left h

/-- The losses, one row per sample. -/
def lossRows (X : FVec Ideal S8x19x512x512 .f32) (T : IVec S8x512x512 32) : FVec Ideal S8x262144 .f32 :=
  shapeCast S8x262144 (fn_where_0 (cmpi .eq T (broadcastInDim S8x512x512 ![] bcast_S_S8x512x512 (constantI S_ 32 4294967295#32)))
    (constant S_ .f32 0x00000000#32)
    (Host.negf (shapeCast S8x512x512 (fn_take_along_axis (fn_log_softmax X) (wanted T)) shapeCasts_S8x1x512x512_S8x512x512)))
    shapeCasts_S8x512x512_S8x262144

variable (X : FVec Ideal S8x19x512x512 .f32) (T : IVec S8x512x512 32) (x : Fin 8 → Fin 19 → Fin 512 → Fin 512 → ℝ) (t : Fin 8 → Fin 512 → Fin 512 → BitVec 32)

/-- From finite logits and targets in range they are the cross entropies. -/
theorem lossRows_apply (hx : ∀ b k i j, X (ix4 b k i j) = ((x b k i j : ℝ) : EReal)) (ht : ∀ b i j, T (ix3 b i j) = t b i j)
    (hr : ∀ b i j, Target (t b i j)) (b : Fin 8) (n : Fin 262144) : lossRows X T (ix2 b n) = ((losses x t b n : ℝ) : EReal) := by
  unfold lossRows
  rw [shapeCast_apply _ _ _ (ix3 b (row n) (col n)) (by
    rw [Shape.rowMajor_val_three, Shape.rowMajor_val_two]
    have := pos_row_col n
    show (b.val * 512 + (row n).val) * 512 + (col n).val = b.val * 262144 + n.val
    omega)]
  have hT : ∀ b i j, Target (T (ix3 b i j)) := fun b i j => by rw [ht]; exact hr b i j
  generalize hi : row n = i
  generalize hj : col n = j
  have hl : losses x t b n = entropy (fun k => x b k i j) (T (ix3 b i j)) := by rw [ht, ← hi, ← hj]; rfl
  rw [hl]
  have e : fn_where_0 (cmpi .eq T (broadcastInDim S8x512x512 ![] bcast_S_S8x512x512 (constantI S_ 32 4294967295#32)))
    (constant S_ .f32 0x00000000#32)
    (Host.negf (shapeCast S8x512x512 (fn_take_along_axis (fn_log_softmax X) (wanted T)) shapeCasts_S8x1x512x512_S8x512x512)) (ix3 b i j)
      = Scalar.select (cmpi .eq T (broadcastInDim S8x512x512 ![] bcast_S_S8x512x512 (constantI S_ 32 4294967295#32)) (ix3 b i j))
        (Ideal.ofBits .f32 0x00000000#32) (-(shapeCast S8x512x512 (fn_take_along_axis (fn_log_softmax X) (wanted T)) shapeCasts_S8x1x512x512_S8x512x512 (ix3 b i j))) := rfl
  rw [e, left_out]
  by_cases h : T (ix3 b i j) = ignored
  · rw [beq_iff_eq.mpr h]
    unfold entropy
    rw [if_pos h]
    exact Ideal.ofBits_zero_f32
  · rw [beq_eq_false_iff_ne.mpr h]
    have hlt := (hT b i j).resolve_left h
    have hs : shapeCast S8x512x512 (fn_take_along_axis (fn_log_softmax X) (wanted T)) shapeCasts_S8x1x512x512_S8x512x512 (ix3 b i j)
        = ((x b (cls (T (ix3 b i j))) i j - lse (fun k => x b k i j) : ℝ) : EReal) := by
      rw [shapeCast_apply _ _ _ (ix4 b 0 i j) (by
        rw [Shape.rowMajor_val_four, Shape.rowMajor_val_three]
        show ((b.val * 1 + 0) * 512 + i.val) * 512 + j.val = (b.val * 512 + i.val) * 512 + j.val
        omega), take_apply _ _ (wanted_lt T hT)]
      have hc : (⟨(wanted T (ix4 b 0 i j)).toNat, wanted_lt T hT _⟩ : Fin 19) = cls (T (ix3 b i j)) := Fin.ext (by
        show (wanted T (ix4 b 0 i j)).toNat = (T (ix3 b i j)).toNat % 19
        rw [wanted_apply, if_neg h, Nat.mod_eq_of_lt hlt])
      rw [hc]
      exact log_softmax_apply X _ b i j (fun k => hx b k i j) _
    rw [hs]
    unfold entropy
    rw [if_neg h]
    show -((_ : ℝ) : EReal) = _
    rw [← EReal.coe_neg]
    exact congrArg Real.toEReal (by ring)

end Cert.Loss

end
-- ==== Proof.Pre.Largest.lean ====
/- A row's largest entries as a program takes them, over the extended reals: those a sort from the largest down puts first. -/
module

public import proofs.«01_k».proof.Proof.Math.TopK
public import Idealize.ShloMosaic.Lib.ValueIdx
public import Idealize.ShloMosaic.Lib.Pipeline.Value
public import Idealize.ShloMosaic.PureOps.Ideal.Laws

@[expose] public section

noncomputable section

open Idealize.ShloMosaic Idealize.ShloMosaic.ValueIdx

namespace Cert.Largest

/-- The positions of a list from its largest entry down. -/
def order {n : ℕ} (x : Fin n → ℝ) : Fin n → Fin n := sortedFrom fun i j => decide (x j < x i)

/-- Each row's largest entries, in order. -/
theorem topK_apply {n k : ℕ} (L : FVec Ideal ⟨2, ![8, n]⟩ .f32) (l : Fin 8 → Fin n → ℝ) (h : (⟨2, ![8, n]⟩ : Shape).Slices (fun _ => 0) ⟨2, ![8, k]⟩)
    (hL : ∀ b i, L (ix2 b i) = ((l b i : ℝ) : EReal)) (hk : k ≤ n) (b : Fin 8) (r : Fin k) :
    (Host.topK (⟨2, ![8, k]⟩ : Shape) 1 (FloatOps.cmpfTotal .gt) L h).1 (ix2 b r) = ((l b (order (l b) (r.castLE hk)) : ℝ) : EReal) := by
  unfold Host.topK
  dsimp only
  refine (extractStridedSlice_apply _ _ _ (ix2 b r) (ix2 b (r.castLE hk)) (by intro a; match a with | ⟨0, _⟩ => simp [ix2] | ⟨1, _⟩ => simp [ix2])).trans ?_
  have along (k : Fin n) : (ix2 b (r.castLE hk) : (⟨2, ![8, n]⟩ : Shape).Idx).along 1 k = ix2 b k := by
    funext a
    match a with
    | ⟨0, _⟩ => rfl
    | ⟨1, _⟩ => rfl
  have hb : (fun k k' : Fin n => FloatOps.cmpfTotal (F := Ideal) .gt (L ((ix2 b (r.castLE hk) : (⟨2, ![8, n]⟩ : Shape).Idx).along 1 k)) (L ((ix2 b (r.castLE hk) : (⟨2, ![8, n]⟩ : Shape).Idx).along 1 k')) == 1#1)
      = fun k k' => decide (l b k' < l b k) := by
    funext k k'
    rw [along, along, hL, hL]
    show (BitVec.ofBool (decide (((l b k' : ℝ) : EReal) < ((l b k : ℝ) : EReal))) == 1#1) = _
    simp only [EReal.coe_lt_coe_iff]
    cases decide (l b k' < l b k) <;> rfl
  show L ((ix2 b (r.castLE hk) : (⟨2, ![8, n]⟩ : Shape).Idx).along 1 (sortedFrom (fun k k' : Fin n => FloatOps.cmpfTotal (F := Ideal) .gt (L ((ix2 b (r.castLE hk) : (⟨2, ![8, n]⟩ : Shape).Idx).along 1 k)) (L ((ix2 b (r.castLE hk) : (⟨2, ![8, n]⟩ : Shape).Idx).along 1 k')) == 1#1) (r.castLE hk))) = _
  rw [hb]
  exact (congrArg L (along _)).trans (hL b _)

end Cert.Largest

end
-- ==== Proof.Math.Rows.lean ====
/- The sum of each row as a program takes it, over the extended reals. -/
module

public import Idealize.ShloMosaic.Lib.ValueIdxCore
public import Idealize.ShloMosaic.Lib.IdealHost
public import Idealize.ShloMosaic.Lib.ReduceAll
public import Idealize.ShloMosaic.PureOps.Ideal.Laws

@[expose] public section

noncomputable section

namespace Cert.Rows

open Idealize.ShloMosaic Idealize.ShloMosaic.ValueIdx

/-- The index of a row with the column put back. -/
theorem lift_ix {n : ℕ} (hd : (⟨2, ![8, n]⟩ : Shape).Reduces [1] ⟨1, ![8]⟩) (b : Fin 8) (k : Fin n) : hd.lift (ix1 b) k = ix2 b k := by
  funext a
  match a with
  | ⟨0, _⟩ => rfl
  | ⟨1, _⟩ => rfl

/-- Each row's sum. -/
theorem sum_apply {n : ℕ} (Y : FVec Ideal ⟨2, ![8, n]⟩ .f32) (f : Fin 8 → Fin n → EReal) (hY : ∀ b k, Y (ix2 b k) = f b k)
    (hd : (⟨2, ![8, n]⟩ : Shape).Reduces [1] ⟨1, ![8]⟩) (hr : (⟨2, ![8, n]⟩ : Shape).ReducesTo [1] ⟨1, ![8]⟩) (hu : 0 < (⟨0, ![]⟩ : Shape).numel)
    (b : Fin 8) : Host.reduceAdd Y (constant (F := Ideal) ⟨0, ![]⟩ .f32 0x00000000#32) hr hu (ix1 b) = ∑ k : Fin n, f b k := by
  rw [hostReduceAdd_apply, Ideal.hostReduceAdd_single hr hd]
  have h0 : constant (F := Ideal) ⟨0, ![]⟩ .f32 0x00000000#32 (Shape.Idx.first hu) = (0 : EReal) := Ideal.ofBits_zero_f32
  rw [h0, zero_add]
  exact Finset.sum_congr rfl fun k _ => (congrArg Y (lift_ix hd b k)).trans (hY b k)

end Cert.Rows

end
-- ==== Proof.Ref.Value.lean ====
/- The value the reference returns, over the extended reals, from finite logits and targets in range: the mean of the samples'
means of their largest losses. -/
module

public import proofs.«01_k».proof.Proof.Gen.ReferenceIdeal
public import proofs.«01_k».proof.Proof.Gen.ReferenceIdeal.Run
public import proofs.«01_k».proof.Proof.Gen.Pre_sampled_threshold_splits
public import proofs.«01_k».proof.Proof.Pre.Loss
public import proofs.«01_k».proof.Proof.Pre.Largest
public import proofs.«01_k».proof.Proof.Math.Mean
public import proofs.«01_k».proof.Proof.Math.Rows

@[expose] public section

set_option maxRecDepth 16384

noncomputable section

namespace Cert.ReferenceIdeal.Hand

open Idealize.ShloMosaic Idealize.ShloMosaic.TcCoe Idealize.ShloMosaic.ValueIdx
open Cert.ReferenceIdeal Cert.ReferenceIdeal.Facts₀ Cert.ReferenceIdeal.Facts Cert.Entropy Cert.Problem

/-- The number of losses kept. -/
theorem lit_k : Ideal.ofBits .f32 0x474CCC00#32 = ((52428 : ℝ) : EReal) := by
  simp [Ideal.ofBits, Ideal.ieee, -EReal.coe_mul]; norm_num

/-- Each sample's largest losses. -/
def kept (L : FVec Ideal S8x262144 .f32) : FVec Ideal S8x52428 .f32 :=
  (Host.topK S8x52428 1 (FloatOps.cmpfTotal .gt) L sliceFits_S8x262144_S8x52428).1

/-- Each sample's mean. -/
def means (Y : FVec Ideal S8x52428 .f32) : FVec Ideal S8 .f32 :=
  Host.divf (Host.reduceAdd Y (constant S_ .f32 0x00000000#32) reducesTo_S8x52428_S8_d1 h_S_)
    (broadcastInDim S8 ![] bcast_S_S8 (constant S_ .f32 0x474CCC00#32))

/-- The mean over the samples. -/
def mean (Z : FVec Ideal S8 .f32) : FVec Ideal S_ .f32 :=
  Host.divf (Host.reduceAdd Z (constant S_ .f32 0x00000000#32) reducesTo_S8_S_d0 h_S_) (constant S_ .f32 0x41000000#32)

/-- The reference's result is that mean of the losses of its arguments. -/
theorem result_eq (m : (ℓ : Loc nD τ sig) → Buf (Elt Ideal) ℓ) (c : Dev nD) : Value.res_main_v14 m c
    = mean (means (kept (Loss.lossRows (m ((c.tc : Thread nD τ).loc main_arg0)) (m ((c.tc : Thread nD τ).loc main_arg1))))) := rfl

/-- A sample's mean. -/
theorem means_apply (L : FVec Ideal S8x262144 .f32) (l : Fin 8 → Fin 262144 → ℝ) (hL : ∀ b n, L (ix2 b n) = ((l b n : ℝ) : EReal)) (b : Fin 8) :
    means (kept L) (ix1 b) = ((TopK.topSum (l b) (Largest.order (l b)) 52428 (by decide) / 52428 : ℝ) : EReal) := by
  unfold means
  rw [hostDivf_apply, Rows.sum_apply (kept L) _ (Largest.topK_apply L l _ hL (by decide)) (by decide)]
  have e : broadcastInDim S8 ![] bcast_S_S8 (constant (F := Ideal) S_ .f32 0x474CCC00#32) (ix1 b) = ((52428 : ℝ) : EReal) :=
    (broadcastInDim_scalar_apply _ _ _).trans lit_k
  rw [e, ← Entropy.coe_sum, Ideal.div_coe (by norm_num), ← EReal.coe_mul, ← div_eq_mul_one_div]
  rfl

/-- The mean of the samples' means. -/
theorem mean_kept (L : FVec Ideal S8x262144 .f32) (l : Fin 8 → Fin 262144 → ℝ) (hL : ∀ b n, L (ix2 b n) = ((l b n : ℝ) : EReal)) (i : S_.Idx) :
    mean (means (kept L)) i = (((∑ b, TopK.topSum (l b) (Largest.order (l b)) 52428 (by decide) / 52428) / 8 : ℝ) : EReal) :=
  Mean.mean_eq _ _ (means_apply L l hL) reducesTo_S8_S_d0 h_S_ i

/-- The reference's result. -/
theorem value (m : (ℓ : Loc nD τ sig) → Buf (Elt Ideal) ℓ) (c : Dev nD)
    (x : Fin 8 → Fin 19 → Fin 512 → Fin 512 → ℝ) (t : Fin 8 → Fin 512 → Fin 512 → BitVec 32)
    (hx : ∀ b k i j, m ((c.tc : Thread nD τ).loc main_arg0) (ix4 b k i j) = ((x b k i j : ℝ) : EReal))
    (ht : ∀ b i j, m ((c.tc : Thread nD τ).loc main_arg1) (ix3 b i j) = t b i j) (hr : ∀ b i j, Target (t b i j)) (i : S_.Idx) :
    Value.res_main_v14 m c i
      = (((∑ b, TopK.topSum (losses x t b) (Largest.order (losses x t b)) 52428 (by decide) / 52428) / 8 : ℝ) : EReal) := by
  rw [result_eq]
  exact mean_kept _ _ (Loss.lossRows_apply _ _ x t hx ht hr) i

end Cert.ReferenceIdeal.Hand

end
-- ==== Proof.Pre.Domain.lean ====
/- What the precondition says of the arguments: the logits are finite and the targets in range. -/
module

public import proofs.«01_k».proof.Pre_sampled_threshold_splits
public import proofs.«01_k».proof.Proof.Math.Problem
public import Idealize.ShloMosaic.Lib.ValueIdx
public import Idealize.ShloMosaic.Lib.IdealHost
public import Idealize.ShloMosaic.PureOps.Ideal.Laws

@[expose] public section

set_option maxRecDepth 16384

noncomputable section

namespace Cert.Domain

open Idealize.ShloMosaic Idealize.ShloMosaic.ValueIdx
open Cert.Pre_sampled_threshold_splits Cert.Pre_sampled_threshold_splits.Facts Cert.Entropy

variable [Facts] (X : FVec Ideal S8x19x512x512 .f32) (T : IVec S8x512x512 32)

/-- The pattern of plus infinity. -/
theorem lit_top : Ideal.ofBits .f32 0x7F800000#32 = (⊤ : EReal) := by simp [Ideal.ofBits, Ideal.ieee]

/-- An extended real whose absolute value is below plus infinity is a real. -/
theorem real_of_abs (a : EReal) (h : max a (-a) < ⊤) : ∃ r : ℝ, a = ((r : ℝ) : EReal) := by
  induction a with
  | bot => exact absurd h (by simp)
  | top => exact absurd h (by simp)
  | coe r => exact ⟨r, rfl⟩

/-- The logits are finite. -/
theorem finite (h : (fn X T).1 = fun _ => 1#1) (p : S8x19x512x512.Idx) : ∃ r : ℝ, X p = ((r : ℝ) : EReal) := by
  have e : (fn X T).1 p = BitVec.ofBool (decide (max (X p) (-(X p)) < broadcastInDim S8x19x512x512 ![] bcast_S_S8x19x512x512 (constant (F := Ideal) S_ .f32 0x7F800000#32) p)) := rfl
  have e2 : broadcastInDim S8x19x512x512 ![] bcast_S_S8x19x512x512 (constant (F := Ideal) S_ .f32 0x7F800000#32) p = (⊤ : EReal) :=
    (broadcastInDim_scalar_apply _ _ _).trans lit_top
  rw [e2, congrFun h p] at e
  refine real_of_abs (X p) (by_contra fun hn => ?_)
  rw [decide_eq_false hn] at e
  exact absurd e (by decide)

/-- A word from -1 up to 18 is -1 or a class. -/
theorem target_of (a : BitVec 32) (h : IntOp.andi (IntOp.cmpi .sge a 4294967295#32) (IntOp.cmpi .slt a 19#32) = 1#1) : Target a := by
  have h1 : IntOp.cmpi .sge a 4294967295#32 = 1#1 ∧ IntOp.cmpi .slt a 19#32 = 1#1 := by
    revert h
    generalize IntOp.cmpi .sge a 4294967295#32 = u
    generalize IntOp.cmpi .slt a 19#32 = v
    revert u v
    decide
  have h2 : (4294967295#32 : BitVec 32).sle a = true := by
    have := h1.1
    revert this
    show BitVec.ofBool ((4294967295#32 : BitVec 32).sle a) = 1#1 → _
    cases (4294967295#32 : BitVec 32).sle a <;> decide
  have h3 : a.slt 19#32 = true := by
    have := h1.2
    revert this
    show BitVec.ofBool (a.slt 19#32) = 1#1 → _
    cases a.slt 19#32 <;> decide
  simp only [BitVec.sle, BitVec.slt, decide_eq_true_eq] at h2 h3
  have e1 : (4294967295#32 : BitVec 32).toInt = -1 := by decide
  have e2 : (19#32 : BitVec 32).toInt = 19 := by decide
  rw [e1] at h2
  rw [e2] at h3
  by_cases hz : a.toInt = -1
  · exact .inl (BitVec.eq_of_toInt_eq (hz.trans e1.symm))
  · right
    have := BitVec.toInt_eq_toNat_cond a
    split at this <;> omega

/-- The targets are in range. -/
theorem target (h : (fn X T).2.1 = fun _ => 1#1) (p : S8x512x512.Idx) : Target (T p) := by
  refine target_of _ (Eq.trans ?_ (congrFun h p))
  refine (congrArg₂ IntOp.andi (congrArg (IntOp.cmpi .sge (T p)) (broadcastInDim_scalar_apply bcast_S_S8x512x512 (constantI S_ 32 4294967295#32) p))
    (congrArg (IntOp.cmpi .slt (T p)) (broadcastInDim_scalar_apply bcast_S_S8x512x512 (constantI S_ 32 19#32) p))).symm.trans ?_
  rfl

end Cert.Domain

end
-- ==== Proof.Pre.Split.lean ====
/- What the precondition says of the losses: no more than 52428 of a sample's losses are above its threshold, and no fewer are
at or above it. -/
module

public import proofs.«01_k».proof.Pre_sampled_threshold_splits
public import proofs.«01_k».proof.Proof.Pre.Loss
public import proofs.«01_k».proof.Proof.Pre.Largest
public import proofs.«01_k».proof.Proof.Math.Words
public import proofs.«01_k».proof.Proof.Math.Rows
public import proofs.«01_k».proof.Proof.Math.Flat

@[expose] public section

set_option maxRecDepth 16384

noncomputable section

namespace Cert.Split

open Idealize.ShloMosaic Idealize.ShloMosaic.ValueIdx
open Cert.Pre_sampled_threshold_splits Cert.Pre_sampled_threshold_splits.Facts Cert.Words Cert.Search

variable [Facts] (L : FVec Ideal S8x262144 .f32) (l : Fin 8 → Fin 262144 → ℝ)

/-- The values of the words a search can end with. -/
def grid : FVec Ideal S32640 .f32 :=
  bitcastToFloat .f32 (Host.shli (iotaInDim S32640 32 0) (broadcastInDim S32640 ![] bcast_S_S32640 (constantI S_ 32 16#32)))

/-- Each is its word's. -/
theorem grid_apply (c : Fin 32640) : grid (ix1 c) = val c.val := by
  have e : grid (ix1 c) = Ideal.ofBits .f32 (IntOp.shli .host (iotaInDim S32640 32 0 (ix1 c)) (broadcastInDim S32640 ![] bcast_S_S32640 (constantI S_ 32 16#32) (ix1 c))) := rfl
  rw [e, broadcastInDim_scalar_apply]
  rfl

/-- The 3277th largest of each sample's first 16384 losses. -/
def kth : FVec Ideal S8x1 .f32 :=
  extractStridedSlice S8x1 ![0, 3276] (Host.topK S8x3277 1 (FloatOps.cmpfTotal .gt)
    (extractStridedSlice S8x16384 ![0, 0] L slices_S8x262144_S8x16384_0_0) sliceFits_S8x16384_S8x3277).1 slices_S8x3277_S8x1_0_3276

/-- The largest value of a word that is at or below it, for each sample. -/
def level : FVec Ideal S8 .f32 :=
  Host.reduce FloatOps.maximumf
    (fn_where_1 (cmpf .ole (broadcastInDim S8x32640 ![0, 1] bcast_S1x32640_S8x32640_0_1 (broadcastInDim S1x32640 ![1] bcast_S32640_S1x32640_1 grid))
        (broadcastInDim S8x32640 ![0, 1] bcast_S8x1_S8x32640_0_1 (kth L)))
      (broadcastInDim S1x32640 ![1] bcast_S32640_S1x32640_1 grid) (constant S_ .f32 0x00000000#32))
    (constant S_ .f32 0xFF800000#32) reducesTo_S8x32640_S8_d1 h_S_

/-- The number of each sample's losses that compare so with its level. -/
def counts (d : CmpFPredicate) : FVec Ideal S8 .f32 :=
  Host.reduceAdd (uitofp .f32 (cmpf d L (broadcastInDim S8x262144 ![0, 1] bcast_S8x1_S8x262144_0_1 (broadcastInDim S8x1 ![0] bcast_S8_S8x1_0 (level L)))))
    (constant S_ .f32 0x00000000#32) reducesTo_S8x262144_S8_d1 h_S_

/-- What the precondition says of the losses. -/
theorem splits_eq (X : FVec Ideal S8x19x512x512 .f32) (T : IVec S8x512x512 32) : (fn X T).2.2
    = andi (cmpf .ole (counts (Loss.lossRows X T) .ogt) (broadcastInDim S8 ![] bcast_S_S8 (constant S_ .f32 0x474CCC00#32)))
      (cmpf .oge (counts (Loss.lossRows X T) .oge) (broadcastInDim S8 ![] bcast_S_S8 (constant S_ .f32 0x474CCC00#32))) := rfl

/-- The first 16384 losses of a sample. -/
def first (x : Fin 262144 → ℝ) (n : Fin 16384) : ℝ := x (n.castLE (by decide))

variable {L l}

/-- The 3277th largest of a sample's first losses. -/
theorem kth_apply (hL : ∀ b n, L (ix2 b n) = ((l b n : ℝ) : EReal)) (b : Fin 8) :
    kth L (ix2 b 0) = ((first (l b) (Largest.order (first (l b)) ⟨3276, by decide⟩) : ℝ) : EReal) := by
  unfold kth
  rw [extractStridedSlice_apply _ _ _ (ix2 b 0 : S8x1.Idx) (ix2 b (⟨3276, by decide⟩ : Fin 3277)) (by
    intro a; match a with | ⟨0, _⟩ => simp [ix2] | ⟨1, _⟩ => rfl)]
  refine Largest.topK_apply _ (fun b => first (l b)) _ (fun b n => ?_) (by decide) b _
  rw [extractStridedSlice_apply _ _ _ (ix2 b n : S8x16384.Idx) (ix2 b (n.castLE (by decide))) (by
    intro a; match a with | ⟨0, _⟩ => simp [ix2] | ⟨1, _⟩ => simp [ix2])]
  exact hL b _

/-- The level, as the largest of the values kept. -/
theorem level_apply (b : Fin 8) : level L (ix1 b)
    = (Finset.univ : Finset (Fin 32640)).fold max ⊥ (fun c => if val c.val ≤ kth L (ix2 b 0) then val c.val else (0 : EReal)) := by
  have drops : S8x32640.Reduces [1] S8 := by decide
  unfold level
  rw [Host.reduce_eq_fold_single FloatOps.maximumf _ _ reducesTo_S8x32640_S8_d1 drops h_S_]
  have h0 : constant (F := Ideal) S_ .f32 0xFF800000#32 (Shape.Idx.first h_S_) = (⊥ : EReal) := Loss.lit_bot
  have hf (c : Fin 32640) : fn_where_1 (cmpf .ole (broadcastInDim S8x32640 ![0, 1] bcast_S1x32640_S8x32640_0_1 (broadcastInDim S1x32640 ![1] bcast_S32640_S1x32640_1 grid))
        (broadcastInDim S8x32640 ![0, 1] bcast_S8x1_S8x32640_0_1 (kth L)))
      (broadcastInDim S1x32640 ![1] bcast_S32640_S1x32640_1 grid) (constant S_ .f32 0x00000000#32) (drops.lift (ix1 b) c)
      = if val c.val ≤ kth L (ix2 b 0) then val c.val else (0 : EReal) := by
    refine (congrArg _ (Rows.lift_ix drops b c)).trans ?_
    have hg : broadcastInDim S8x32640 ![0, 1] bcast_S1x32640_S8x32640_0_1 (broadcastInDim S1x32640 ![1] bcast_S32640_S1x32640_1 grid) (ix2 b c) = val c.val := by
      rw [broadcastInDim_apply _ _ _ (ix2 b c) (ix2 (0 : Fin 1) c) (by intro a; match a with | ⟨0, _⟩ => rfl | ⟨1, _⟩ => rfl),
        broadcastInDim_apply _ _ _ (ix2 (0 : Fin 1) c) (ix1 c) (by intro a; match a with | ⟨0, _⟩ => rfl), grid_apply]
    have hk : broadcastInDim S8x32640 ![0, 1] bcast_S8x1_S8x32640_0_1 (kth L) (ix2 b c) = kth L (ix2 b 0) :=
      broadcastInDim_apply _ _ _ _ _ (by intro a; match a with | ⟨0, _⟩ => rfl | ⟨1, _⟩ => rfl)
    have e : fn_where_1 (cmpf .ole (broadcastInDim S8x32640 ![0, 1] bcast_S1x32640_S8x32640_0_1 (broadcastInDim S1x32640 ![1] bcast_S32640_S1x32640_1 grid))
        (broadcastInDim S8x32640 ![0, 1] bcast_S8x1_S8x32640_0_1 (kth L)))
      (broadcastInDim S1x32640 ![1] bcast_S32640_S1x32640_1 grid) (constant S_ .f32 0x00000000#32) (ix2 b c)
      = Scalar.select (BitVec.ofBool (decide (broadcastInDim S8x32640 ![0, 1] bcast_S1x32640_S8x32640_0_1 (broadcastInDim S1x32640 ![1] bcast_S32640_S1x32640_1 grid) (ix2 b c)
          ≤ broadcastInDim S8x32640 ![0, 1] bcast_S8x1_S8x32640_0_1 (kth L) (ix2 b c))))
        (broadcastInDim S8x32640 ![0, 1] bcast_S1x32640_S8x32640_0_1 (broadcastInDim S1x32640 ![1] bcast_S32640_S1x32640_1 grid) (ix2 b c))
        (Ideal.ofBits .f32 0x00000000#32) := rfl
    rw [e, hg, hk, Ideal.ofBits_zero_f32]
    by_cases h : val c.val ≤ kth L (ix2 b 0)
    · rw [if_pos h, decide_eq_true h]; rfl
    · rw [if_neg h, decide_eq_false h]; rfl
  rw [h0]
  exact congrArg (fun f => (Finset.univ : Finset (Fin 32640)).fold max (⊥ : EReal) f) (funext hf)

/-- The largest value kept is that of the last word kept. -/
theorem fold_grid (κ : EReal) (w : ℕ) (hw : w < top) (h1 : val w ≤ κ) (h2 : ∀ d, w < d → d < top → ¬ val d ≤ κ) :
    (Finset.univ : Finset (Fin 32640)).fold max ⊥ (fun c => if val c.val ≤ κ then val c.val else (0 : EReal)) = ((real w : ℝ) : EReal) := by
  obtain ⟨⟨k, hk⟩, hle⟩ := Loss.fold_max (n := 32639) fun c : Fin 32640 => if val c.val ≤ κ then val c.val else (0 : EReal)
  refine le_antisymm (hk.trans_le ?_) ?_
  · split
    · next h =>
      rw [val_eq _ k.isLt, EReal.coe_le_coe_iff]
      exact real_strictMono.monotone (not_lt.mp fun hlt => h2 _ hlt k.isLt h)
    · rw [← EReal.coe_zero, EReal.coe_le_coe_iff]
      exact real_nonneg w
  · have := hle ⟨w, hw⟩
    dsimp only at this
    rw [if_pos h1, val_eq w hw] at this
    exact this

/-- Enough of a sample's first losses reach a value exactly when the 3277th largest does. -/
theorem enough_iff (x : Fin 262144 → ℝ) (c : ℕ) (hc : c < top) :
    val c ≤ ((first x (Largest.order (first x) ⟨3276, by decide⟩) : ℝ) : EReal)
      ↔ 3277 ≤ (Finset.univ.filter fun n => val c ≤ ((first x n : ℝ) : EReal)).card := by
  simp only [val_eq c hc, EReal.coe_le_coe_iff]
  exact TopK.le_kth_iff (TopK.sorts_sortedFrom (first x)) 3276 (by decide) (real c)

/-- A sample's level is the value of the last word that enough of its first losses reach. -/
theorem level_eq (hL : ∀ b n, L (ix2 b n) = ((l b n : ℝ) : EReal)) (b : Fin 8) (w : ℕ) (hw : w < top)
    (h1 : 3277 ≤ (Finset.univ.filter fun n => val w ≤ ((first (l b) n : ℝ) : EReal)).card)
    (h2 : ∀ d, w < d → d ≤ top → ¬ 3277 ≤ (Finset.univ.filter fun n => val d ≤ ((first (l b) n : ℝ) : EReal)).card) :
    level L (ix1 b) = ((real w : ℝ) : EReal) := by
  rw [level_apply, kth_apply hL]
  exact fold_grid _ w hw ((enough_iff _ w hw).mpr h1) fun d hd ht h => h2 d hd ht.le ((enough_iff _ d ht).mp h)

/-- A comparison's outcome converted: one or nothing. -/
theorem one_or_zero (p : Bool) : (FloatOps.uitofp .f32 (BitVec.ofBool p) : Ideal .f32) = if p = true then (1 : EReal) else 0 := by
  cases p
  · show ((((0#1 : BitVec 1).toNat : ℝ)) : EReal) = _
    simp
  · show ((((1#1 : BitVec 1).toNat : ℝ)) : EReal) = _
    simp

/-- The level of each sample, beside each of its losses. -/
theorem beside (Z : FVec Ideal S8 .f32) (b : Fin 8) (n : Fin 262144) :
    broadcastInDim S8x262144 ![0, 1] bcast_S8x1_S8x262144_0_1 (broadcastInDim S8x1 ![0] bcast_S8_S8x1_0 Z) (ix2 b n) = Z (ix1 b) := by
  rw [broadcastInDim_apply _ _ _ (ix2 b n) (ix2 b (0 : Fin 1)) (by intro a; match a with | ⟨0, _⟩ => rfl | ⟨1, _⟩ => rfl),
    broadcastInDim_apply _ _ _ (ix2 b (0 : Fin 1)) (ix1 b) (by intro a; match a with | ⟨0, _⟩ => rfl)]

/-- A count of the losses that compare so with the level. -/
theorem counts_apply (hL : ∀ b n, L (ix2 b n) = ((l b n : ℝ) : EReal)) (v : Fin 8 → ℝ) (hv : ∀ b, level L (ix1 b) = ((v b : ℝ) : EReal))
    (d : CmpFPredicate) (p : ℝ → ℝ → Prop) [∀ a b, Decidable (p a b)]
    (hp : ∀ a b : ℝ, FloatOps.cmpf (F := Ideal) (φ := .f32) d ((a : ℝ) : EReal) ((b : ℝ) : EReal) = BitVec.ofBool (decide (p a b))) (b : Fin 8) :
    counts L d (ix1 b) = (((Finset.univ.filter fun n => p (l b n) (v b)).card : ℝ) : EReal) := by
  unfold counts
  rw [Rows.sum_apply _ (fun b n => if p (l b n) (v b) then (1 : EReal) else 0) (fun b n => ?_) (by decide), ← Flat.sum_ones]
  have e : uitofp (F := Ideal) .f32 (cmpf d L (broadcastInDim S8x262144 ![0, 1] bcast_S8x1_S8x262144_0_1 (broadcastInDim S8x1 ![0] bcast_S8_S8x1_0 (level L)))) (ix2 b n)
      = FloatOps.uitofp .f32 (FloatOps.cmpf d (L (ix2 b n)) (broadcastInDim S8x262144 ![0, 1] bcast_S8x1_S8x262144_0_1 (broadcastInDim S8x1 ![0] bcast_S8_S8x1_0 (level L)) (ix2 b n))) := rfl
  rw [e, beside, hL, hv, hp, one_or_zero]
  simp only [decide_eq_true_eq]

/-- Two comparisons that both hold, at an index. -/
theorem both_apply (A B C : FVec Ideal S8 .f32) (i : S8.Idx) : andi (cmpf .ole A C) (cmpf .oge B C) i
    = IntOp.andi (BitVec.ofBool (decide ((A i : EReal) ≤ C i))) (BitVec.ofBool (decide ((C i : EReal) ≤ B i))) := rfl

/-- The number of losses kept. -/
theorem lit_k : Ideal.ofBits .f32 0x474CCC00#32 = ((52428 : ℝ) : EReal) := by
  simp [Ideal.ofBits, Ideal.ieee, -EReal.coe_mul]; norm_num

/-- From losses that are real, with the levels known: the precondition bounds the number above the level and the number at or above it. -/
theorem splits (X : FVec Ideal S8x19x512x512 .f32) (T : IVec S8x512x512 32) (h : (fn X T).2.2 = fun _ => 1#1)
    (hL : ∀ b n, Loss.lossRows X T (ix2 b n) = ((l b n : ℝ) : EReal)) (v : Fin 8 → ℝ) (hv : ∀ b, level (Loss.lossRows X T) (ix1 b) = ((v b : ℝ) : EReal))
    (b : Fin 8) : (Finset.univ.filter fun n => v b < l b n).card ≤ 52428 ∧ 52428 ≤ (Finset.univ.filter fun n => v b ≤ l b n).card := by
  have e := congrFun ((splits_eq X T).symm.trans h) (ix1 b)
  have ek : broadcastInDim S8 ![] bcast_S_S8 (constant (F := Ideal) S_ .f32 0x474CCC00#32) (ix1 b) = (((52428 : ℕ) : ℝ) : EReal) :=
    (broadcastInDim_scalar_apply _ _ _).trans (lit_k.trans (by norm_num))
  have h1 := counts_apply hL v hv .ogt (fun a b => b < a) (fun a b => by
    show BitVec.ofBool (decide (((b : ℝ) : EReal) < ((a : ℝ) : EReal))) = _
    simp only [EReal.coe_lt_coe_iff]) b
  have h2 := counts_apply hL v hv .oge (fun a b => b ≤ a) (fun a b => by
    show BitVec.ofBool (decide (((b : ℝ) : EReal) ≤ ((a : ℝ) : EReal))) = _
    simp only [EReal.coe_le_coe_iff]) b
  have e' := (both_apply _ _ _ _).symm.trans e
  rw [h1, h2, ek] at e'
  simp only [Flat.natCast_le_count] at e'
  have both : ∀ p q : Bool, IntOp.andi (BitVec.ofBool p) (BitVec.ofBool q) = 1#1 → p = true ∧ q = true := by decide
  have := both _ _ e'
  exact ⟨of_decide_eq_true this.1, of_decide_eq_true this.2⟩

end Cert.Split

end
-- ==== Proof.Equal.lean ====
/- Under the precondition the kernel and the reference return the same number, over the extended reals. -/
module

public import proofs.«01_k».proof.Proof.Ideal.Value
public import proofs.«01_k».proof.Proof.Ref.Value
public import proofs.«01_k».proof.Proof.Pre.Domain
public import proofs.«01_k».proof.Proof.Pre.Split

@[expose] public section

set_option maxRecDepth 16384

noncomputable section

namespace Cert.Equal

open Idealize.ShloMosaic Idealize.ShloMosaic.TcCoe Idealize.ShloMosaic.ValueIdx
open Cert.Entropy Cert.Problem

variable (m : (ℓ : Loc KernelIdeal.nD KernelIdeal.τ KernelIdeal.sig) → Buf (Elt Ideal) ℓ)
/-- A device's logits. -/
abbrev logits (c : Dev KernelIdeal.nD) : FVec Ideal KernelIdeal.S8x19x512x512 .f32 := m ((c.tc : Thread KernelIdeal.nD KernelIdeal.τ).loc KernelIdeal.main_arg0)
/-- A device's targets. -/
abbrev targets (c : Dev KernelIdeal.nD) : IVec KernelIdeal.S8x512x512 32 := m ((c.tc : Thread KernelIdeal.nD KernelIdeal.τ).loc KernelIdeal.main_arg1)

/-- From finite logits and targets in range the losses and the levels are real, and the kernel's result is the mean over the samples
of the excess over the level. -/
theorem kernel_value (c : Dev KernelIdeal.nD)
    (h1 : (Pre_sampled_threshold_splits.fn (logits m c) (targets m c)).1 = fun _ => 1#1)
    (h2 : (Pre_sampled_threshold_splits.fn (logits m c) (targets m c)).2.1 = fun _ => 1#1) :
    ∃ (l : Fin 8 → Fin 262144 → ℝ) (v : Fin 8 → ℝ),
      (∀ b n, Loss.lossRows (logits m c) (targets m c) (ix2 b n) = ((l b n : ℝ) : EReal))
      ∧ (∀ b, Split.level (Loss.lossRows (logits m c) (targets m c)) (ix1 b) = ((v b : ℝ) : EReal))
      ∧ ∀ i, KernelIdeal.Hand.total (KernelIdeal.Hand.results m c) i = (((∑ b, TopK.excess (l b) 52428 (v b) / 52428) / 8 : ℝ) : EReal) := by
  choose x0 hx0 using Domain.finite _ _ h1
  let x : Fin 8 → Fin 19 → Fin 512 → Fin 512 → ℝ := fun b k i j => x0 (ix4 b k i j)
  let t : Fin 8 → Fin 512 → Fin 512 → BitVec 32 := fun b i j => targets m c (ix3 b i j)
  have hx : ∀ b k i j, logits m c (ix4 b k i j) = ((x b k i j : ℝ) : EReal) := fun b k i j => hx0 _
  have ht : ∀ b i j, targets m c (ix3 b i j) = t b i j := fun _ _ _ => rfl
  have hr : ∀ b i j, Target (t b i j) := fun b i j => Domain.target _ _ h2 _
  have hL := Loss.lossRows_apply (logits m c) (targets m c) x t hx ht hr
  have hw := KernelIdeal.Hand.wordAt_spec m c x t hx ht hr
  exact ⟨losses x t, fun b => Words.real (KernelIdeal.Hand.wordAt m c b).toNat, hL,
    fun b => Split.level_eq hL b _ (hw b).1 (hw b).2.1 (hw b).2.2, KernelIdeal.Hand.value m c x t hx ht hr⟩

variable (m' : (ℓ : Loc ReferenceIdeal.nD ReferenceIdeal.τ ReferenceIdeal.sig) → Buf (Elt Ideal) ℓ)

/-- The two results, from arguments of which the precondition holds. -/
theorem equal (c : Dev KernelIdeal.nD)
    (h1 : (Pre_sampled_threshold_splits.fn (logits m c) (targets m c)).1 = fun _ => 1#1)
    (h2 : (Pre_sampled_threshold_splits.fn (logits m c) (targets m c)).2.1 = fun _ => 1#1)
    (h3 : (Pre_sampled_threshold_splits.fn (logits m c) (targets m c)).2.2 = fun _ => 1#1)
    (e0 : m' ((c.tc : Thread ReferenceIdeal.nD ReferenceIdeal.τ).loc ReferenceIdeal.main_arg0) = logits m c)
    (e1 : m' ((c.tc : Thread ReferenceIdeal.nD ReferenceIdeal.τ).loc ReferenceIdeal.main_arg1) = targets m c) :
    ReferenceIdeal.Value.res_main_v14 m' c = KernelIdeal.Hand.total (KernelIdeal.Hand.results m c) := by
  obtain ⟨l, v, hL, hv, hk⟩ := kernel_value m c h1 h2
  have hs := Split.splits (logits m c) (targets m c) h3 hL v hv
  funext i
  rw [ReferenceIdeal.Hand.result_eq, e0, e1, hk i]
  refine (ReferenceIdeal.Hand.mean_kept _ l hL i).trans ?_
  refine congrArg (fun r : ℝ => ((r / 8 : ℝ) : EReal)) (Finset.sum_congr rfl fun b _ => congrArg (· / (52428 : ℝ)) ?_)
  exact TopK.topSum_eq_excess (TopK.sorts_sortedFrom _) 52428 _ _ (hs b).1 (hs b).2

end Cert.Equal

end
-- ==== Proof.Over.lean ====
/- From finite logits and targets in range the kernel's result is the mean over the samples of the level and the mean excess of the
losses over it, and is not below the reference's, over the extended reals. -/
module

public import proofs.«01_k».proof.Post_mean_over_threshold
public import proofs.«01_k».proof.Proof.Gen.Post_mean_over_threshold
public import proofs.«01_k».proof.Proof.Equal

@[expose] public section

set_option maxRecDepth 16384

noncomputable section

namespace Cert.Over

open Idealize.ShloMosaic Idealize.ShloMosaic.TcCoe Idealize.ShloMosaic.ValueIdx
open Cert.Post_mean_over_threshold Cert.Post_mean_over_threshold.Facts Cert.Equal

variable (L : FVec Ideal S8x262144 .f32)

/-- The parts of the losses above the level. -/
def parts : FVec Ideal S8x262144 .f32 :=
  maximumf (subf L (broadcastInDim S8x262144 ![0, 1] bcast_S8x1_S8x262144_0_1 (broadcastInDim S8x1 ![0] bcast_S8_S8x1_0 (Split.level L))))
    (broadcastInDim S8x262144 ![] bcast_S_S8x262144 (constant S_ .f32 0x00000000#32))

/-- Each sample's level and mean excess over it. -/
def over : FVec Ideal S8 .f32 :=
  addf (shapeCast S8 (broadcastInDim S8x1 ![0] bcast_S8_S8x1_0 (Split.level L)) shapeCasts_S8x1_S8)
    (Host.divf (Host.reduceAdd (parts L) (constant S_ .f32 0x00000000#32) reducesTo_S8x262144_S8_d1 h_S_)
      (broadcastInDim S8 ![] bcast_S_S8 (constant S_ .f32 0x474CCC00#32)))

/-- The first comparison made of a result: it equals the mean of these over the samples. -/
theorem first_eq (X : FVec Ideal S8x19x512x512 .f32) (T : IVec S8x512x512 32) (r : FVec Ideal S_ .f32) :
    (fn X T r).1 = cmpf .oeq r (ReferenceIdeal.Hand.mean (over (Loss.lossRows X T))) := rfl

/-- The second: it is not below the mean of the samples' means of their largest losses. -/
theorem second_eq (X : FVec Ideal S8x19x512x512 .f32) (T : IVec S8x512x512 32) (r : FVec Ideal S_ .f32) :
    (fn X T r).2 = cmpf .oge r (ReferenceIdeal.Hand.mean (ReferenceIdeal.Hand.means (ReferenceIdeal.Hand.kept (Loss.lossRows X T)))) := rfl

variable {L} {l : Fin 8 → Fin 262144 → ℝ} {v : Fin 8 → ℝ}

/-- The part of a loss above the level. -/
theorem parts_apply (hL : ∀ b n, L (ix2 b n) = ((l b n : ℝ) : EReal)) (hv : ∀ b, Split.level L (ix1 b) = ((v b : ℝ) : EReal))
    (b : Fin 8) (n : Fin 262144) : parts L (ix2 b n) = ((max (l b n - v b) 0 : ℝ) : EReal) := by
  unfold parts
  rw [maximumf_apply, subf_apply, hL]
  have e1 : broadcastInDim S8x262144 ![0, 1] bcast_S8x1_S8x262144_0_1 (broadcastInDim S8x1 ![0] bcast_S8_S8x1_0 (Split.level L)) (ix2 b n)
      = ((v b : ℝ) : EReal) := (Split.beside _ b n).trans (hv b)
  have e2 : broadcastInDim S8x262144 ![] bcast_S_S8x262144 (constant (F := Ideal) S_ .f32 0x00000000#32) (ix2 b n) = ((0 : ℝ) : EReal) :=
    (broadcastInDim_scalar_apply _ _ _).trans Ideal.ofBits_zero_f32
  rw [e1, e2, ← EReal.coe_sub]
  exact (Entropy.coe_max _ _).symm

/-- A sample's level and mean excess. -/
theorem over_apply (hL : ∀ b n, L (ix2 b n) = ((l b n : ℝ) : EReal)) (hv : ∀ b, Split.level L (ix1 b) = ((v b : ℝ) : EReal)) (b : Fin 8) :
    over L (ix1 b) = ((TopK.excess (l b) 52428 (v b) / 52428 : ℝ) : EReal) := by
  unfold over
  rw [addf_apply, hostDivf_apply, Rows.sum_apply (parts L) _ (parts_apply hL hv) (by decide),
    shapeCast_apply _ _ (ix1 b) (ix2 b (0 : Fin 1)) (by rw [Shape.rowMajor_val_one, Shape.rowMajor_val_two]; simp [ix1, ix2]),
    broadcastInDim_apply _ _ _ (ix2 b (0 : Fin 1)) (ix1 b) (by intro a; match a with | ⟨0, _⟩ => rfl), hv]
  have e : broadcastInDim S8 ![] bcast_S_S8 (constant (F := Ideal) S_ .f32 0x474CCC00#32) (ix1 b) = ((52428 : ℝ) : EReal) :=
    (broadcastInDim_scalar_apply _ _ _).trans Split.lit_k
  rw [e, ← Entropy.coe_sum, Ideal.div_coe (by norm_num), ← EReal.coe_mul, ← EReal.coe_add]
  refine congrArg Real.toEReal ?_
  unfold TopK.excess
  generalize ∑ n, max (l b n - v b) 0 = s
  push_cast
  ring

variable (m : (ℓ : Loc KernelIdeal.nD KernelIdeal.τ KernelIdeal.sig) → Buf (Elt Ideal) ℓ)

/-- What holds of the kernel's result, from finite logits and targets in range. -/
theorem holds (c : Dev KernelIdeal.nD)
    (h1 : (Pre_sampled_threshold_splits.fn (logits m c) (targets m c)).1 = fun _ => 1#1)
    (h2 : (Pre_sampled_threshold_splits.fn (logits m c) (targets m c)).2.1 = fun _ => 1#1) :
    (fn (logits m c) (targets m c) (KernelIdeal.Hand.total (KernelIdeal.Hand.results m c))).1 = (fun _ => 1#1)
      ∧ (fn (logits m c) (targets m c) (KernelIdeal.Hand.total (KernelIdeal.Hand.results m c))).2 = fun _ => 1#1 := by
  obtain ⟨l, v, hL, hv, hk⟩ := kernel_value m c h1 h2
  constructor
  · rw [first_eq]
    funext i
    have e : ReferenceIdeal.Hand.mean (over (Loss.lossRows (logits m c) (targets m c))) i
        = (((∑ b, TopK.excess (l b) 52428 (v b) / 52428) / 8 : ℝ) : EReal) :=
      Mean.mean_eq _ _ (over_apply hL hv) reducesTo_S8_S_d0 h_S_ i
    show BitVec.ofBool (decide (_ = _)) = _
    rw [hk i, e, decide_eq_true rfl]
    rfl
  · rw [second_eq]
    funext i
    show BitVec.ofBool (decide (_ ≤ _)) = _
    rw [hk i, ReferenceIdeal.Hand.mean_kept _ l hL i, decide_eq_true]
    · rfl
    · rw [EReal.coe_le_coe_iff]
      refine div_le_div_of_nonneg_right (Finset.sum_le_sum fun b _ => div_le_div_of_nonneg_right ?_ (by norm_num)) (by norm_num)
      exact TopK.topSum_le_excess (TopK.sorts_sortedFrom _) 52428 _ _

end Cert.Over

end
-- ==== Proof.lean ====
/- The certificate of the hard-voxel cross entropy kernel: the frames of the three programs,
the idealization, and over the extended reals the equality of the kernel's result and the reference's where the threshold splits,
and the kernel's result from all finite logits and targets in range. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sampled_threshold_splits
public import proofs.«01_k».proof.Proof.Gen.Pre_finite_and_in_range
public import proofs.«01_k».proof.Proof.Gen.Post_mean_over_threshold
public import proofs.«01_k».proof.Proof.Ref.Frame
public import proofs.«01_k».proof.Proof.Bits.Frame
public import proofs.«01_k».proof.Proof.Ideal.Frame
public import proofs.«01_k».proof.Proof.Equal
public import proofs.«01_k».proof.Proof.Over

@[expose] public section

noncomputable section

open Idealize.ShloMosaic Idealize.ShloMosaic.TcCoe Idealize.SL.Sem

/-- From arguments of which the precondition holds, the kernel and the reference run and return the same number. -/
theorem Cert.Proof.algebraic : Cert.algebraic_KernelIdeal_ReferenceIdeal_pre_sampled_threshold_splits := fun m g m' g' hm hargs =>
  ⟨fun c => Cert.KernelIdeal.Hand.total (Cert.KernelIdeal.Hand.results m c), Cert.KernelIdeal.Hand.run_value m g,
    (θ_run Cert.ReferenceIdeal.defs _ _).mono
      (fun _ h c => ⟨(h c).1.trans (Cert.Equal.equal m m' c (hm c).1 (hm c).2.1 (hm c).2.2 (hargs c).1 (hargs c).2), (h c).2⟩)
      (Cert.ReferenceIdeal.Value.run m' g')⟩

/-- From finite logits and targets in range the kernel runs and returns the mean over the samples of the level and the mean excess
over it, which is not below the reference's result. -/
theorem Cert.Proof.holds : Cert.holds_KernelIdeal_mean_over_threshold_pre_finite_and_in_range := fun m g hm =>
  (θ_run Cert.KernelIdeal.defs _ _).mono
    (fun r h c => by
      obtain ⟨h0, h1, h2⟩ := h c
      have hp := Cert.Over.holds m c (hm c).1 (hm c).2
      rw [← h0] at hp
      exact ⟨h1, h2, hp.1, hp.2⟩)
    (Cert.KernelIdeal.Hand.run_value m g)

/-- The certificate's claim. -/
theorem Cert.Proof.claim : Cert.Claim :=
  ⟨Cert.Kernel.Gen.facts, Cert.KernelIdeal.Gen.facts, Cert.ReferenceIdeal.Gen.facts, Cert.Pre_sampled_threshold_splits.Gen.facts,
    Cert.Pre_finite_and_in_range.Gen.facts, Cert.Post_mean_over_threshold.Gen.facts,
    fun m ρ _ => Cert.Kernel.Hand.frame m ρ,
    fun m ρ _ => Cert.KernelIdeal.Hand.frame m ρ,
    fun m ρ _ => Cert.KernelIdeal.Hand.frame m ρ,
    fun m ρ _ => Cert.KernelIdeal.Hand.frame m ρ,
    fun m ρ _ => Cert.ReferenceIdeal.Hand.frame m ρ,
    fun m ρ _ => Cert.ReferenceIdeal.Hand.frame m ρ,
    trivial,
    Cert.Proof.algebraic,
    Cert.Proof.holds⟩

end
